-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_index_nonneg [hPre_index_nonneg : Cert.Pre_index_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_index_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_nonneg [hPre_index_nonneg : Cert.Pre_index_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_index_nonneg [hKernelIdeal : Cert.KernelIdeal.Facts] [hPre_index_nonneg : Cert.Pre_index_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_index_nonneg m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_index_nonneg [hReferenceIdeal : Cert.ReferenceIdeal.Facts] [hPre_index_nonneg : Cert.Pre_index_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_index_nonneg [hKernelIdeal : Cert.KernelIdeal.Facts] [hReferenceIdeal : Cert.ReferenceIdeal.Facts] [hPre_index_nonneg : Cert.Pre_index_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_index_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_index_nonneg : Cert.Pre_index_nonneg.Facts),
    quiescent_Kernel (hKernel := hKernel)
    ∧ quiescent_KernelIdeal (hKernelIdeal := hKernelIdeal)
    ∧ quiescent_KernelIdeal_pre_index_nonneg (hKernelIdeal := hKernelIdeal) (hPre_index_nonneg := hPre_index_nonneg)
    ∧ quiescent_ReferenceIdeal (hReferenceIdeal := hReferenceIdeal)
    ∧ quiescent_ReferenceIdeal_pre_index_nonneg (hReferenceIdeal := hReferenceIdeal) (hPre_index_nonneg := hPre_index_nonneg)
    ∧ preserves_Kernel_KernelIdeal
    ∧ algebraic_KernelIdeal_ReferenceIdeal_pre_index_nonneg (hKernelIdeal := hKernelIdeal) (hReferenceIdeal := hReferenceIdeal) (hPre_index_nonneg := hPre_index_nonneg)
-- ==== Pre_index_nonneg.lean ====
abbrev S100000x128 : Shape := ⟨2, ![100000, 128]⟩
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S100000x128 .f32) (main_arg1 : IVec S16384x128 32) (main_arg2 : FVec F S16384x128 .f32) : IVec S_ 1 :=
  let main_c : IVec S_ 32 := constantI S_ 32 0#32
  let main_v0 : IVec S16384x128 32 := broadcastInDim S16384x128 ![] bcast_S_S16384x128 main_c
  let main_v1 : IVec S16384x128 1 := cmpi .sge main_arg1 main_v0
  let main_c_0 : IVec S_ 1 := constantI S_ 1 1#1
  let main_v2 : IVec S_ 1 := (fun x v => Host.reduce IntOp.andi x v reducesTo_S16384x128_S_d0_1 h_S_) main_v1 main_c_0
  main_v2
-- ==== Kernel.lean ====
abbrev S100000x128 : Shape := ⟨2, ![100000, 128]⟩
abbrev S16384x128 : Shape := ⟨2, ![16384, 128]⟩
abbrev S128x16384 : Shape := ⟨2, ![128, 16384]⟩
abbrev S2048x128 : Shape := ⟨2, ![2048, 128]⟩
abbrev S128x2048 : Shape := ⟨2, ![128, 2048]⟩
abbrev S2097152 : Shape := ⟨1, ![2097152]⟩
abbrev S10000x8 : Shape := ⟨2, ![10000, 8]⟩
abbrev S8192 : Shape := ⟨1, ![8192]⟩
abbrev S_ : Shape := ⟨0, ![]⟩
abbrev S16 : Shape := ⟨1, ![16]⟩

abbrev nBuf : Table → Nat
  | .hbm => 8
  | .local .tc .vmem => 8
  | .local .scVector .vmem => 5
  | _ => 0

abbrev bufTy : (tb : Table) → Fin (nBuf tb) → BufTy
  | .hbm, ⟨0, _⟩ => ⟨S100000x128, .f32⟩
  | .hbm, ⟨1, _⟩ => ⟨S16384x128, .i32⟩
  | .hbm, ⟨2, _⟩ => ⟨S16384x128, .f32⟩
  | .hbm, ⟨3, _⟩ => ⟨S128x16384, .i32⟩
  | .hbm, ⟨4, _⟩ => ⟨S128x16384, .f32⟩
  | .hbm, ⟨5, _⟩ => ⟨S2097152, .i32⟩
  | .hbm, ⟨6, _⟩ => ⟨S2097152, .f32⟩
  | .hbm, ⟨7, _⟩ => ⟨S100000x128, .f32⟩
  | .local .tc .vmem, ⟨0, _⟩ => ⟨S2048x128, .i32⟩
  | .local .tc .vmem, ⟨1, _⟩ => ⟨S2048x128, .i32⟩
  | .local .tc .vmem, ⟨2, _⟩ => ⟨S2048x128, .f32⟩
  | .local .tc .vmem, ⟨3, _⟩ => ⟨S2048x128, .f32⟩
  | .local .tc .vmem, ⟨4, _⟩ => ⟨S128x2048, .i32⟩
  | .local .tc .vmem, ⟨5, _⟩ => ⟨S128x2048, .i32⟩
  | .local .tc .vmem, ⟨6, _⟩ => ⟨S128x2048, .f32⟩
  | .local .tc .vmem, ⟨7, _⟩ => ⟨S128x2048, .f32⟩
  | .local .scVector .vmem, ⟨0, _⟩ => ⟨S10000x8, .f32⟩
  | .local .scVector .vmem, ⟨1, _⟩ => ⟨S8192, .i32⟩
  | .local .scVector .vmem, ⟨2, _⟩ => ⟨S8192, .i32⟩
  | .local .scVector .vmem, ⟨3, _⟩ => ⟨S8192, .f32⟩
  | .local .scVector .vmem, ⟨4, _⟩ => ⟨S8192, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0_scv : Ref sig .scVector := ⟨.hbm, 0, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) (c0_i32 : BitVec 32) (c0_i32_6 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c16_i32 : BitVec 32 := 16#32
  let v3 : BitVec 32 := Scalar.remsi v2 c16_i32
  let c8_i32_8 : BitVec 32 := 8#32
  let v24 : BitVec 32 := Scalar.muli v3 c8_i32_8
  let c0_i32_9 : BitVec 32 := 0#32
  let v25 : BitVec 32 := Scalar.addi v24 c0_i32_9
  let c16384_i32 : BitVec 32 := 16384#32
  let v26 : BitVec 32 := Scalar.muli v25 c16384_i32
  let c2_i32_7 : BitVec 32 := 2#32
  let v23 : BitVec 32 := Scalar.remsi c0_i32_6 c2_i32_7
  let c8192_i32 : BitVec 32 := 8192#32
  let v27 : BitVec 32 := Scalar.muli v23 c8192_i32
  let v28 : BitVec 32 := Scalar.addi v26 v27
  ![v28.toNat]
def k1_off2 (i : grid1.Coords) (c0_i32_28 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v55 : BitVec 32 := Scalar.addi v1 c0_i32_28
  let c0_i32_31 : BitVec 32 := 0#32
  let v58 : BitVec 1 := Scalar.cmpi .sgt v55 c0_i32_31
  let v59 : BitVec 32 := Scalar.extui v58
  let c0_i32_32 : BitVec 32 := 0#32
  let v60 : BitVec 1 := Scalar.cmpi .slt v55 c0_i32_32
  let v61 : BitVec 32 := Scalar.extui v60
  let v62 : BitVec 32 := Scalar.subi v59 v61
  let c16_i32_30 : BitVec 32 := 16#32
  let c0_i32_33 : BitVec 32 := 0#32
  let v63 : BitVec 1 := Scalar.cmpi .sgt c16_i32_30 c0_i32_33
  let v64 : BitVec 32 := Scalar.extui v63
  let c0_i32_34 : BitVec 32 := 0#32
  let v65 : BitVec 1 := Scalar.cmpi .slt c16_i32_30 c0_i32_34
  let v66 : BitVec 32 := Scalar.extui v65
  let v67 : BitVec 32 := Scalar.subi v64 v66
  let v68 : BitVec 1 := Scalar.cmpi .ne v62 v67
  let v69 : BitVec 32 := Scalar.remsi v55 c16_i32_30
  let c0_i32_35 : BitVec 32 := 0#32
  let v70 : BitVec 1 := Scalar.cmpi .ne v69 c0_i32_35
  let v71 : BitVec 1 := Scalar.andi v68 v70
  let v57 : BitVec 32 := Scalar.divsi v55 c16_i32_30
  let c1_i32_36 : BitVec 32 := 1#32
  let v72 : BitVec 32 := Scalar.subi v57 c1_i32_36
  let v73 : BitVec 32 := Scalar.select v71 v72 v57
  let c10000_i32_37 : BitVec 32 := 10000#32
  let v74 : BitVec 32 := Scalar.muli v73 c10000_i32_37
  let c16_i32_29 : BitVec 32 := 16#32
  let v56 : BitVec 32 := Scalar.remsi v55 c16_i32_29
  let c8_i32_38 : BitVec 32 := 8#32
  let v75 : BitVec 32 := Scalar.muli v56 c8_i32_38
  ![v74.toNat, v75.toNat]
@[reducible] def k1_t1_loop : Scf.Loop 32 :=
  let c0_i32_39 : BitVec 32 := 0#32
  let c8_i32_40 : BitVec 32 := 8#32
  let v76 : BitVec 32 := Scalar.addi c0_i32_39 c8_i32_40
  let c1_i32_41 : BitVec 32 := 1#32
  ⟨c0_i32_39, v76, c1_i32_41⟩
@[reducible] def k1_t2_loop : Scf.Loop 32 :=
  let c0_i32_254 : BitVec 32 := 0#32
  let c64_i32_255 : BitVec 32 := 64#32
  let v402 : BitVec 32 := Scalar.addi c0_i32_254 c64_i32_255
  let c1_i32_256 : BitVec 32 := 1#32
  ⟨c0_i32_254, v402, c1_i32_256⟩
def k1_off3 (k1_t2 : Fin k1_t2_loop.trips) (c0_i32_284 : BitVec 32) : Fin 1 → Nat :=
  let c0_i32_282 : BitVec 32 := 0#32
  let c0_i32_254 : BitVec 32 := 0#32
  let c1_i32_256 : BitVec 32 := 1#32
  let arg16 : BitVec 32 := Scf.iv c0_i32_254 c1_i32_256 k1_t2
  let c1_i32_281 : BitVec 32 := 1#32
  let v435 : BitVec 32 := Scalar.muli arg16 c1_i32_281
  let v436 : BitVec 32 := Scalar.addi c0_i32_282 v435
  let c8_i32_283 : BitVec 32 := 8#32
  let v437 : BitVec 32 := Scalar.muli v436 c8_i32_283
  let v438 : BitVec 32 := Scalar.addi v437 c0_i32_284
  let c16_i32_285 : BitVec 32 := 16#32
  let v439 : BitVec 32 := Scalar.muli v438 c16_i32_285
  let v440 : Index := Scalar.indexCast v439
  ![v440.toNat]

def k1_chk1 (v493 : IVec S16 32) (v499 : IVec S16 32) : Prop :=
  (∀ a x, ((![v499, v493] : Fin 2 → IVec S16 32) a x).toNat < S10000x8.size a)
theorem k1_idx1_inb : ∀ (v493 : IVec S16 32) (v499 : IVec S16 32) (k1_hw1 : k1_chk1 v493 v499), ∀ a x, ((![v499, v493] : Fin 2 → IVec S16 32) a x).toNat < S10000x8.size a := fun v493 v499 k1_hw1 => k1_hw1

def k1_chk2 (v493 : IVec S16 32) (v505 : IVec S16 32) : Prop :=
  (∀ a x, ((![v505, v493] : Fin 2 → IVec S16 32) a x).toNat < S10000x8.size a)
theorem k1_idx2_inb : ∀ (v493 : IVec S16 32) (v505 : IVec S16 32) (k1_hw2 : k1_chk2 v493 v505), ∀ a x, ((![v505, v493] : Fin 2 → IVec S16 32) a x).toNat < S10000x8.size a := fun v493 v505 k1_hw2 => k1_hw2

def k1_chk3 (v493 : IVec S16 32) (v511 : IVec S16 32) : Prop :=
  (∀ a x, ((![v511, v493] : Fin 2 → IVec S16 32) a x).toNat < S10000x8.size a)
theorem k1_idx3_inb : ∀ (v493 : IVec S16 32) (v511 : IVec S16 32) (k1_hw3 : k1_chk3 v493 v511), ∀ a x, ((![v511, v493] : Fin 2 → IVec S16 32) a x).toNat < S10000x8.size a := fun v493 v511 k1_hw3 => k1_hw3

def k1_chk4 (v493 : IVec S16 32) (v517 : IVec S16 32) : Prop :=
  (∀ a x, ((![v517, v493] : Fin 2 → IVec S16 32) a x).toNat < S10000x8.size a)
theorem k1_idx4_inb : ∀ (v493 : IVec S16 32) (v517 : IVec S16 32) (k1_hw4 : k1_chk4 v493 v517), ∀ a x, ((![v517, v493] : Fin 2 → IVec S16 32) a x).toNat < S10000x8.size a := fun v493 v517 k1_hw4 => k1_hw4

def k1_chk5 (v493 : IVec S16 32) (v523 : IVec S16 32) : Prop :=
  (∀ a x, ((![v523, v493] : Fin 2 → IVec S16 32) a x).toNat < S10000x8.size a)
theorem k1_idx5_inb : ∀ (v493 : IVec S16 32) (v523 : IVec S16 32) (k1_hw5 : k1_chk5 v493 v523), ∀ a x, ((![v523, v493] : Fin 2 → IVec S16 32) a x).toNat < S10000x8.size a := fun v493 v523 k1_hw5 => k1_hw5

def k1_chk6 (v493 : IVec S16 32) (v529 : IVec S16 32) : Prop :=
  (∀ a x, ((![v529, v493] : Fin 2 → IVec S16 32) a x).toNat < S10000x8.size a)
theorem k1_idx6_inb : ∀ (v493 : IVec S16 32) (v529 : IVec S16 32) (k1_hw6 : k1_chk6 v493 v529), ∀ a x, ((![v529, v493] : Fin 2 → IVec S16 32) a x).toNat < S10000x8.size a := fun v493 v529 k1_hw6 => k1_hw6

def k1_chk7 (v493 : IVec S16 32) (v535 : IVec S16 32) : Prop :=
  (∀ a x, ((![v535, v493] : Fin 2 → IVec S16 32) a x).toNat < S10000x8.size a)
theorem k1_idx7_inb : ∀ (v493 : IVec S16 32) (v535 : IVec S16 32) (k1_hw7 : k1_chk7 v493 v535), ∀ a x, ((![v535, v493] : Fin 2 → IVec S16 32) a x).toNat < S10000x8.size a := fun v493 v535 k1_hw7 => k1_hw7

def k1_chk8 (v493 : IVec S16 32) (v541 : IVec S16 32) : Prop :=
  (∀ a x, ((![v541, v493] : Fin 2 → IVec S16 32) a x).toNat < S10000x8.size a)
theorem k1_idx8_inb : ∀ (v493 : IVec S16 32) (v541 : IVec S16 32) (k1_hw8 : k1_chk8 v493 v541), ∀ a x, ((![v541, v493] : Fin 2 → IVec S16 32) a x).toNat < S10000x8.size a := fun v493 v541 k1_hw8 => k1_hw8
def k1_cond1 (k1_t1 : Fin k1_t1_loop.trips) : BitVec 1 :=
  let c2_i32_241 : BitVec 32 := 2#32
  let c0_i32_240 : BitVec 32 := 0#32
  let c0_i32_39 : BitVec 32 := 0#32
  let c1_i32_41 : BitVec 32 := 1#32
  let arg15 : BitVec 32 := Scf.iv c0_i32_39 c1_i32_41 k1_t1
  let c1_i32_239 : BitVec 32 := 1#32
  let v377 : BitVec 32 := Scalar.muli arg15 c1_i32_239
  let v378 : BitVec 32 := Scalar.addi c0_i32_240 v377
  let v379 : BitVec 32 := Scalar.muli c2_i32_241 v378
  let c0_i32_242 : BitVec 32 := 0#32
  let v380 : BitVec 32 := Scalar.addi v379 c0_i32_242
  let c2_i32_258 : BitVec 32 := 2#32
  let v403 : BitVec 32 := Scalar.addi v380 c2_i32_258
  let c16_i32_259 : BitVec 32 := 16#32
  let v404 : BitVec 1 := Scalar.cmpi .slt v403 c16_i32_259
  let v405 : BitVec 32 := Scalar.extui v404
  let c0_i32_260 : BitVec 32 := 0#32
  let v406 : BitVec 1 := Scalar.cmpi .ne v405 c0_i32_260
  v406

def k1_off4 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_28 : BitVec 32 := 0#32
  let v55 : BitVec 32 := Scalar.addi v1 c0_i32_28
  let c16_i32_29 : BitVec 32 := 16#32
  let v56 : BitVec 32 := Scalar.remsi v55 c16_i32_29
  let c8_i32_289 : BitVec 32 := 8#32
  let v453 : BitVec 32 := Scalar.muli v56 c8_i32_289
  let c2_i32_241 : BitVec 32 := 2#32
  let c0_i32_240 : BitVec 32 := 0#32
  let c0_i32_39 : BitVec 32 := 0#32
  let c1_i32_41 : BitVec 32 := 1#32
  let arg15 : BitVec 32 := Scf.iv c0_i32_39 c1_i32_41 k1_t1
  let c1_i32_239 : BitVec 32 := 1#32
  let v377 : BitVec 32 := Scalar.muli arg15 c1_i32_239
  let v378 : BitVec 32 := Scalar.addi c0_i32_240 v377
  let v379 : BitVec 32 := Scalar.muli c2_i32_241 v378
  let c0_i32_242 : BitVec 32 := 0#32
  let v380 : BitVec 32 := Scalar.addi v379 c0_i32_242
  let c2_i32_258 : BitVec 32 := 2#32
  let v403 : BitVec 32 := Scalar.addi v380 c2_i32_258
  let c0_i32_282 : BitVec 32 := 0#32
  let v436 : BitVec 1 := Scalar.cmpi .sgt v403 c0_i32_282
  let v437 : BitVec 32 := Scalar.extui v436
  let c0_i32_283 : BitVec 32 := 0#32
  let v438 : BitVec 1 := Scalar.cmpi .slt v403 c0_i32_283
  let v439 : BitVec 32 := Scalar.extui v438
  let v440 : BitVec 32 := Scalar.subi v437 v439
  let c2_i32_281 : BitVec 32 := 2#32
  let c0_i32_284 : BitVec 32 := 0#32
  let v441 : BitVec 1 := Scalar.cmpi .sgt c2_i32_281 c0_i32_284
  let v442 : BitVec 32 := Scalar.extui v441
  let c0_i32_285 : BitVec 32 := 0#32
  let v443 : BitVec 1 := Scalar.cmpi .slt c2_i32_281 c0_i32_285
  let v444 : BitVec 32 := Scalar.extui v443
  let v445 : BitVec 32 := Scalar.subi v442 v444
  let v446 : BitVec 1 := Scalar.cmpi .ne v440 v445
  let v447 : BitVec 32 := Scalar.remsi v403 c2_i32_281
  let c0_i32_286 : BitVec 32 := 0#32
  let v448 : BitVec 1 := Scalar.cmpi .ne v447 c0_i32_286
  let v449 : BitVec 1 := Scalar.andi v446 v448
  let v435 : BitVec 32 := Scalar.divsi v403 c2_i32_281
  let c1_i32_287 : BitVec 32 := 1#32
  let v450 : BitVec 32 := Scalar.subi v435 c1_i32_287
  let v451 : BitVec 32 := Scalar.select v449 v450 v435
  let v454 : BitVec 32 := Scalar.addi v453 v451
  let c16384_i32_290 : BitVec 32 := 16384#32
  let v455 : BitVec 32 := Scalar.muli v454 c16384_i32_290
  let c2_i32_288 : BitVec 32 := 2#32
  let v452 : BitVec 32 := Scalar.remsi v403 c2_i32_288
  let c8192_i32_291 : BitVec 32 := 8192#32
  let v456 : BitVec 32 := Scalar.muli v452 c8192_i32_291
  let v457 : BitVec 32 := Scalar.addi v455 v456
  ![v457.toNat]
@[reducible] def k1_t3_loop : Scf.Loop 32 :=
  let c0_i32_274 : BitVec 32 := 0#32
  let c64_i32_275 : BitVec 32 := 64#32
  let v430 : BitVec 32 := Scalar.addi c0_i32_274 c64_i32_275
  let c1_i32_276 : BitVec 32 := 1#32
  ⟨c0_i32_274, v430, c1_i32_276⟩
def k1_off5 (k1_t3 : Fin k1_t3_loop.trips) (c0_i32_284 : BitVec 32) : Fin 1 → Nat :=
  let c0_i32_282 : BitVec 32 := 0#32
  let c0_i32_274 : BitVec 32 := 0#32
  let c1_i32_276 : BitVec 32 := 1#32
  let arg16 : BitVec 32 := Scf.iv c0_i32_274 c1_i32_276 k1_t3
  let c1_i32_281 : BitVec 32 := 1#32
  let v435 : BitVec 32 := Scalar.muli arg16 c1_i32_281
  let v436 : BitVec 32 := Scalar.addi c0_i32_282 v435
  let c8_i32_283 : BitVec 32 := 8#32
  let v437 : BitVec 32 := Scalar.muli v436 c8_i32_283
  let v438 : BitVec 32 := Scalar.addi v437 c0_i32_284
  let c16_i32_285 : BitVec 32 := 16#32
  let v439 : BitVec 32 := Scalar.muli v438 c16_i32_285
  let v440 : Index := Scalar.indexCast v439
  ![v440.toNat]

def k1_chk9 (v493 : IVec S16 32) (v499 : IVec S16 32) : Prop :=
  (∀ a x, ((![v499, v493] : Fin 2 → IVec S16 32) a x).toNat < S10000x8.size a)
theorem k1_idx9_inb : ∀ (v493 : IVec S16 32) (v499 : IVec S16 32) (k1_hw9 : k1_chk9 v493 v499), ∀ a x, ((![v499, v493] : Fin 2 → IVec S16 32) a x).toNat < S10000x8.size a := fun v493 v499 k1_hw9 => k1_hw9

def k1_chk10 (v493 : IVec S16 32) (v505 : IVec S16 32) : Prop :=
  (∀ a x, ((![v505, v493] : Fin 2 → IVec S16 32) a x).toNat < S10000x8.size a)
theorem k1_idx10_inb : ∀ (v493 : IVec S16 32) (v505 : IVec S16 32) (k1_hw10 : k1_chk10 v493 v505), ∀ a x, ((![v505, v493] : Fin 2 → IVec S16 32) a x).toNat < S10000x8.size a := fun v493 v505 k1_hw10 => k1_hw10

def k1_chk11 (v493 : IVec S16 32) (v511 : IVec S16 32) : Prop :=
  (∀ a x, ((![v511, v493] : Fin 2 → IVec S16 32) a x).toNat < S10000x8.size a)
theorem k1_idx11_inb : ∀ (v493 : IVec S16 32) (v511 : IVec S16 32) (k1_hw11 : k1_chk11 v493 v511), ∀ a x, ((![v511, v493] : Fin 2 → IVec S16 32) a x).toNat < S10000x8.size a := fun v493 v511 k1_hw11 => k1_hw11

def k1_chk12 (v493 : IVec S16 32) (v517 : IVec S16 32) : Prop :=
  (∀ a x, ((![v517, v493] : Fin 2 → IVec S16 32) a x).toNat < S10000x8.size a)
theorem k1_idx12_inb : ∀ (v493 : IVec S16 32) (v517 : IVec S16 32) (k1_hw12 : k1_chk12 v493 v517), ∀ a x, ((![v517, v493] : Fin 2 → IVec S16 32) a x).toNat < S10000x8.size a := fun v493 v517 k1_hw12 => k1_hw12

def k1_chk13 (v493 : IVec S16 32) (v523 : IVec S16 32) : Prop :=
  (∀ a x, ((![v523, v493] : Fin 2 → IVec S16 32) a x).toNat < S10000x8.size a)
theorem k1_idx13_inb : ∀ (v493 : IVec S16 32) (v523 : IVec S16 32) (k1_hw13 : k1_chk13 v493 v523), ∀ a x, ((![v523, v493] : Fin 2 → IVec S16 32) a x).toNat < S10000x8.size a := fun v493 v523 k1_hw13 => k1_hw13

def k1_chk14 (v493 : IVec S16 32) (v529 : IVec S16 32) : Prop :=
  (∀ a x, ((![v529, v493] : Fin 2 → IVec S16 32) a x).toNat < S10000x8.size a)
theorem k1_idx14_inb : ∀ (v493 : IVec S16 32) (v529 : IVec S16 32) (k1_hw14 : k1_chk14 v493 v529), ∀ a x, ((![v529, v493] : Fin 2 → IVec S16 32) a x).toNat < S10000x8.size a := fun v493 v529 k1_hw14 => k1_hw14

def k1_chk15 (v493 : IVec S16 32) (v535 : IVec S16 32) : Prop :=
  (∀ a x, ((![v535, v493] : Fin 2 → IVec S16 32) a x).toNat < S10000x8.size a)
theorem k1_idx15_inb : ∀ (v493 : IVec S16 32) (v535 : IVec S16 32) (k1_hw15 : k1_chk15 v493 v535), ∀ a x, ((![v535, v493] : Fin 2 → IVec S16 32) a x).toNat < S10000x8.size a := fun v493 v535 k1_hw15 => k1_hw15

def k1_chk16 (v493 : IVec S16 32) (v541 : IVec S16 32) : Prop :=
  (∀ a x, ((![v541, v493] : Fin 2 → IVec S16 32) a x).toNat < S10000x8.size a)
theorem k1_idx16_inb : ∀ (v493 : IVec S16 32) (v541 : IVec S16 32) (k1_hw16 : k1_chk16 v493 v541), ∀ a x, ((![v541, v493] : Fin 2 → IVec S16 32) a x).toNat < S10000x8.size a := fun v493 v541 k1_hw16 => k1_hw16
def k1_cond2 (k1_t1 : Fin k1_t1_loop.trips) : BitVec 1 :=
  let c2_i32_261 : BitVec 32 := 2#32
  let c0_i32_240 : BitVec 32 := 0#32
  let c0_i32_39 : BitVec 32 := 0#32
  let c1_i32_41 : BitVec 32 := 1#32
  let arg15 : BitVec 32 := Scf.iv c0_i32_39 c1_i32_41 k1_t1
  let c1_i32_239 : BitVec 32 := 1#32
  let v377 : BitVec 32 := Scalar.muli arg15 c1_i32_239
  let v378 : BitVec 32 := Scalar.addi c0_i32_240 v377
  let v407 : BitVec 32 := Scalar.muli c2_i32_261 v378
  let c1_i32_262 : BitVec 32 := 1#32
  let v408 : BitVec 32 := Scalar.addi v407 c1_i32_262
  let c2_i32_278 : BitVec 32 := 2#32
  let v431 : BitVec 32 := Scalar.addi v408 c2_i32_278
  let c16_i32_279 : BitVec 32 := 16#32
  let v432 : BitVec 1 := Scalar.cmpi .slt v431 c16_i32_279
  let v433 : BitVec 32 := Scalar.extui v432
  let c0_i32_280 : BitVec 32 := 0#32
  let v434 : BitVec 1 := Scalar.cmpi .ne v433 c0_i32_280
  v434

def k1_off6 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_28 : BitVec 32 := 0#32
  let v55 : BitVec 32 := Scalar.addi v1 c0_i32_28
  let c16_i32_29 : BitVec 32 := 16#32
  let v56 : BitVec 32 := Scalar.remsi v55 c16_i32_29
  let c8_i32_289 : BitVec 32 := 8#32
  let v453 : BitVec 32 := Scalar.muli v56 c8_i32_289
  let c2_i32_261 : BitVec 32 := 2#32
  let c0_i32_240 : BitVec 32 := 0#32
  let c0_i32_39 : BitVec 32 := 0#32
  let c1_i32_41 : BitVec 32 := 1#32
  let arg15 : BitVec 32 := Scf.iv c0_i32_39 c1_i32_41 k1_t1
  let c1_i32_239 : BitVec 32 := 1#32
  let v377 : BitVec 32 := Scalar.muli arg15 c1_i32_239
  let v378 : BitVec 32 := Scalar.addi c0_i32_240 v377
  let v407 : BitVec 32 := Scalar.muli c2_i32_261 v378
  let c1_i32_262 : BitVec 32 := 1#32
  let v408 : BitVec 32 := Scalar.addi v407 c1_i32_262
  let c2_i32_278 : BitVec 32 := 2#32
  let v431 : BitVec 32 := Scalar.addi v408 c2_i32_278
  let c0_i32_282 : BitVec 32 := 0#32
  let v436 : BitVec 1 := Scalar.cmpi .sgt v431 c0_i32_282
  let v437 : BitVec 32 := Scalar.extui v436
  let c0_i32_283 : BitVec 32 := 0#32
  let v438 : BitVec 1 := Scalar.cmpi .slt v431 c0_i32_283
  let v439 : BitVec 32 := Scalar.extui v438
  let v440 : BitVec 32 := Scalar.subi v437 v439
  let c2_i32_281 : BitVec 32 := 2#32
  let c0_i32_284 : BitVec 32 := 0#32
  let v441 : BitVec 1 := Scalar.cmpi .sgt c2_i32_281 c0_i32_284
  let v442 : BitVec 32 := Scalar.extui v441
  let c0_i32_285 : BitVec 32 := 0#32
  let v443 : BitVec 1 := Scalar.cmpi .slt c2_i32_281 c0_i32_285
  let v444 : BitVec 32 := Scalar.extui v443
  let v445 : BitVec 32 := Scalar.subi v442 v444
  let v446 : BitVec 1 := Scalar.cmpi .ne v440 v445
  let v447 : BitVec 32 := Scalar.remsi v431 c2_i32_281
  let c0_i32_286 : BitVec 32 := 0#32
  let v448 : BitVec 1 := Scalar.cmpi .ne v447 c0_i32_286
  let v449 : BitVec 1 := Scalar.andi v446 v448
  let v435 : BitVec 32 := Scalar.divsi v431 c2_i32_281
  let c1_i32_287 : BitVec 32 := 1#32
  let v450 : BitVec 32 := Scalar.subi v435 c1_i32_287
  let v451 : BitVec 32 := Scalar.select v449 v450 v435
  let v454 : BitVec 32 := Scalar.addi v453 v451
  let c16384_i32_290 : BitVec 32 := 16384#32
  let v455 : BitVec 32 := Scalar.muli v454 c16384_i32_290
  let c2_i32_288 : BitVec 32 := 2#32
  let v452 : BitVec 32 := Scalar.remsi v431 c2_i32_288
  let c8192_i32_291 : BitVec 32 := 8192#32
  let v456 : BitVec 32 := Scalar.muli v452 c8192_i32_291
  let v457 : BitVec 32 := Scalar.addi v455 v456
  ![v457.toNat]
@[reducible] def k1_t4_loop : Scf.Loop 32 :=
  let c0_i32_88 : BitVec 32 := 0#32
  let c8_i32_89 : BitVec 32 := 8#32
  let v151 : BitVec 32 := Scalar.addi c0_i32_88 c8_i32_89
  let c1_i32_90 : BitVec 32 := 1#32
  ⟨c0_i32_88, v151, c1_i32_90⟩
@[reducible] def k1_t5_loop : Scf.Loop 32 :=
  let c0_i32_254 : BitVec 32 := 0#32
  let c64_i32_255 : BitVec 32 := 64#32
  let v402 : BitVec 32 := Scalar.addi c0_i32_254 c64_i32_255
  let c1_i32_256 : BitVec 32 := 1#32
  ⟨c0_i32_254, v402, c1_i32_256⟩
def k1_off7 (k1_t5 : Fin k1_t5_loop.trips) (c0_i32_284 : BitVec 32) : Fin 1 → Nat :=
  let c0_i32_282 : BitVec 32 := 0#32
  let c0_i32_254 : BitVec 32 := 0#32
  let c1_i32_256 : BitVec 32 := 1#32
  let arg16 : BitVec 32 := Scf.iv c0_i32_254 c1_i32_256 k1_t5
  let c1_i32_281 : BitVec 32 := 1#32
  let v435 : BitVec 32 := Scalar.muli arg16 c1_i32_281
  let v436 : BitVec 32 := Scalar.addi c0_i32_282 v435
  let c8_i32_283 : BitVec 32 := 8#32
  let v437 : BitVec 32 := Scalar.muli v436 c8_i32_283
  let v438 : BitVec 32 := Scalar.addi v437 c0_i32_284
  let c16_i32_285 : BitVec 32 := 16#32
  let v439 : BitVec 32 := Scalar.muli v438 c16_i32_285
  let v440 : Index := Scalar.indexCast v439
  ![v440.toNat]

def k1_chk17 (v493 : IVec S16 32) (v499 : IVec S16 32) : Prop :=
  (∀ a x, ((![v499, v493] : Fin 2 → IVec S16 32) a x).toNat < S10000x8.size a)
theorem k1_idx17_inb : ∀ (v493 : IVec S16 32) (v499 : IVec S16 32) (k1_hw17 : k1_chk17 v493 v499), ∀ a x, ((![v499, v493] : Fin 2 → IVec S16 32) a x).toNat < S10000x8.size a := fun v493 v499 k1_hw17 => k1_hw17

def k1_chk18 (v493 : IVec S16 32) (v505 : IVec S16 32) : Prop :=
  (∀ a x, ((![v505, v493] : Fin 2 → IVec S16 32) a x).toNat < S10000x8.size a)
theorem k1_idx18_inb : ∀ (v493 : IVec S16 32) (v505 : IVec S16 32) (k1_hw18 : k1_chk18 v493 v505), ∀ a x, ((![v505, v493] : Fin 2 → IVec S16 32) a x).toNat < S10000x8.size a := fun v493 v505 k1_hw18 => k1_hw18

def k1_chk19 (v493 : IVec S16 32) (v511 : IVec S16 32) : Prop :=
  (∀ a x, ((![v511, v493] : Fin 2 → IVec S16 32) a x).toNat < S10000x8.size a)
theorem k1_idx19_inb : ∀ (v493 : IVec S16 32) (v511 : IVec S16 32) (k1_hw19 : k1_chk19 v493 v511), ∀ a x, ((![v511, v493] : Fin 2 → IVec S16 32) a x).toNat < S10000x8.size a := fun v493 v511 k1_hw19 => k1_hw19

def k1_chk20 (v493 : IVec S16 32) (v517 : IVec S16 32) : Prop :=
  (∀ a x, ((![v517, v493] : Fin 2 → IVec S16 32) a x).toNat < S10000x8.size a)
theorem k1_idx20_inb : ∀ (v493 : IVec S16 32) (v517 : IVec S16 32) (k1_hw20 : k1_chk20 v493 v517), ∀ a x, ((![v517, v493] : Fin 2 → IVec S16 32) a x).toNat < S10000x8.size a := fun v493 v517 k1_hw20 => k1_hw20

def k1_chk21 (v493 : IVec S16 32) (v523 : IVec S16 32) : Prop :=
  (∀ a x, ((![v523, v493] : Fin 2 → IVec S16 32) a x).toNat < S10000x8.size a)
theorem k1_idx21_inb : ∀ (v493 : IVec S16 32) (v523 : IVec S16 32) (k1_hw21 : k1_chk21 v493 v523), ∀ a x, ((![v523, v493] : Fin 2 → IVec S16 32) a x).toNat < S10000x8.size a := fun v493 v523 k1_hw21 => k1_hw21

def k1_chk22 (v493 : IVec S16 32) (v529 : IVec S16 32) : Prop :=
  (∀ a x, ((![v529, v493] : Fin 2 → IVec S16 32) a x).toNat < S10000x8.size a)
theorem k1_idx22_inb : ∀ (v493 : IVec S16 32) (v529 : IVec S16 32) (k1_hw22 : k1_chk22 v493 v529), ∀ a x, ((![v529, v493] : Fin 2 → IVec S16 32) a x).toNat < S10000x8.size a := fun v493 v529 k1_hw22 => k1_hw22

def k1_chk23 (v493 : IVec S16 32) (v535 : IVec S16 32) : Prop :=
  (∀ a x, ((![v535, v493] : Fin 2 → IVec S16 32) a x).toNat < S10000x8.size a)
theorem k1_idx23_inb : ∀ (v493 : IVec S16 32) (v535 : IVec S16 32) (k1_hw23 : k1_chk23 v493 v535), ∀ a x, ((![v535, v493] : Fin 2 → IVec S16 32) a x).toNat < S10000x8.size a := fun v493 v535 k1_hw23 => k1_hw23

def k1_chk24 (v493 : IVec S16 32) (v541 : IVec S16 32) : Prop :=
  (∀ a x, ((![v541, v493] : Fin 2 → IVec S16 32) a x).toNat < S10000x8.size a)
theorem k1_idx24_inb : ∀ (v493 : IVec S16 32) (v541 : IVec S16 32) (k1_hw24 : k1_chk24 v493 v541), ∀ a x, ((![v541, v493] : Fin 2 → IVec S16 32) a x).toNat < S10000x8.size a := fun v493 v541 k1_hw24 => k1_hw24
def k1_cond3 (k1_t4 : Fin k1_t4_loop.trips) : BitVec 1 :=
  let c2_i32_241 : BitVec 32 := 2#32
  let c0_i32_240 : BitVec 32 := 0#32
  let c0_i32_88 : BitVec 32 := 0#32
  let c1_i32_90 : BitVec 32 := 1#32
  let arg15 : BitVec 32 := Scf.iv c0_i32_88 c1_i32_90 k1_t4
  let c1_i32_239 : BitVec 32 := 1#32
  let v377 : BitVec 32 := Scalar.muli arg15 c1_i32_239
  let v378 : BitVec 32 := Scalar.addi c0_i32_240 v377
  let v379 : BitVec 32 := Scalar.muli c2_i32_241 v378
  let c0_i32_242 : BitVec 32 := 0#32
  let v380 : BitVec 32 := Scalar.addi v379 c0_i32_242
  let c2_i32_258 : BitVec 32 := 2#32
  let v403 : BitVec 32 := Scalar.addi v380 c2_i32_258
  let c16_i32_259 : BitVec 32 := 16#32
  let v404 : BitVec 1 := Scalar.cmpi .slt v403 c16_i32_259
  let v405 : BitVec 32 := Scalar.extui v404
  let c0_i32_260 : BitVec 32 := 0#32
  let v406 : BitVec 1 := Scalar.cmpi .ne v405 c0_i32_260
  v406

def k1_off8 (i : grid1.Coords) (k1_t4 : Fin k1_t4_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_77 : BitVec 32 := 32#32
  let v130 : BitVec 32 := Scalar.addi v1 c32_i32_77
  let c16_i32_78 : BitVec 32 := 16#32
  let v131 : BitVec 32 := Scalar.remsi v130 c16_i32_78
  let c8_i32_289 : BitVec 32 := 8#32
  let v453 : BitVec 32 := Scalar.muli v131 c8_i32_289
  let c2_i32_241 : BitVec 32 := 2#32
  let c0_i32_240 : BitVec 32 := 0#32
  let c0_i32_88 : BitVec 32 := 0#32
  let c1_i32_90 : BitVec 32 := 1#32
  let arg15 : BitVec 32 := Scf.iv c0_i32_88 c1_i32_90 k1_t4
  let c1_i32_239 : BitVec 32 := 1#32
  let v377 : BitVec 32 := Scalar.muli arg15 c1_i32_239
  let v378 : BitVec 32 := Scalar.addi c0_i32_240 v377
  let v379 : BitVec 32 := Scalar.muli c2_i32_241 v378
  let c0_i32_242 : BitVec 32 := 0#32
  let v380 : BitVec 32 := Scalar.addi v379 c0_i32_242
  let c2_i32_258 : BitVec 32 := 2#32
  let v403 : BitVec 32 := Scalar.addi v380 c2_i32_258
  let c0_i32_282 : BitVec 32 := 0#32
  let v436 : BitVec 1 := Scalar.cmpi .sgt v403 c0_i32_282
  let v437 : BitVec 32 := Scalar.extui v436
  let c0_i32_283 : BitVec 32 := 0#32
  let v438 : BitVec 1 := Scalar.cmpi .slt v403 c0_i32_283
  let v439 : BitVec 32 := Scalar.extui v438
  let v440 : BitVec 32 := Scalar.subi v437 v439
  let c2_i32_281 : BitVec 32 := 2#32
  let c0_i32_284 : BitVec 32 := 0#32
  let v441 : BitVec 1 := Scalar.cmpi .sgt c2_i32_281 c0_i32_284
  let v442 : BitVec 32 := Scalar.extui v441
  let c0_i32_285 : BitVec 32 := 0#32
  let v443 : BitVec 1 := Scalar.cmpi .slt c2_i32_281 c0_i32_285
  let v444 : BitVec 32 := Scalar.extui v443
  let v445 : BitVec 32 := Scalar.subi v442 v444
  let v446 : BitVec 1 := Scalar.cmpi .ne v440 v445
  let v447 : BitVec 32 := Scalar.remsi v403 c2_i32_281
  let c0_i32_286 : BitVec 32 := 0#32
  let v448 : BitVec 1 := Scalar.cmpi .ne v447 c0_i32_286
  let v449 : BitVec 1 := Scalar.andi v446 v448
  let v435 : BitVec 32 := Scalar.divsi v403 c2_i32_281
  let c1_i32_287 : BitVec 32 := 1#32
  let v450 : BitVec 32 := Scalar.subi v435 c1_i32_287
  let v451 : BitVec 32 := Scalar.select v449 v450 v435
  let v454 : BitVec 32 := Scalar.addi v453 v451
  let c16384_i32_290 : BitVec 32 := 16384#32
  let v455 : BitVec 32 := Scalar.muli v454 c16384_i32_290
  let c2_i32_288 : BitVec 32 := 2#32
  let v452 : BitVec 32 := Scalar.remsi v403 c2_i32_288
  let c8192_i32_291 : BitVec 32 := 8192#32
  let v456 : BitVec 32 := Scalar.muli v452 c8192_i32_291
  let v457 : BitVec 32 := Scalar.addi v455 v456
  ![v457.toNat]
@[reducible] def k1_t6_loop : Scf.Loop 32 :=
  let c0_i32_274 : BitVec 32 := 0#32
  let c64_i32_275 : BitVec 32 := 64#32
  let v430 : BitVec 32 := Scalar.addi c0_i32_274 c64_i32_275
  let c1_i32_276 : BitVec 32 := 1#32
  ⟨c0_i32_274, v430, c1_i32_276⟩
def k1_off9 (k1_t6 : Fin k1_t6_loop.trips) (c0_i32_284 : BitVec 32) : Fin 1 → Nat :=
  let c0_i32_282 : BitVec 32 := 0#32
  let c0_i32_274 : BitVec 32 := 0#32
  let c1_i32_276 : BitVec 32 := 1#32
  let arg16 : BitVec 32 := Scf.iv c0_i32_274 c1_i32_276 k1_t6
  let c1_i32_281 : BitVec 32 := 1#32
  let v435 : BitVec 32 := Scalar.muli arg16 c1_i32_281
  let v436 : BitVec 32 := Scalar.addi c0_i32_282 v435
  let c8_i32_283 : BitVec 32 := 8#32
  let v437 : BitVec 32 := Scalar.muli v436 c8_i32_283
  let v438 : BitVec 32 := Scalar.addi v437 c0_i32_284
  let c16_i32_285 : BitVec 32 := 16#32
  let v439 : BitVec 32 := Scalar.muli v438 c16_i32_285
  let v440 : Index := Scalar.indexCast v439
  ![v440.toNat]

def k1_chk25 (v493 : IVec S16 32) (v499 : IVec S16 32) : Prop :=
  (∀ a x, ((![v499, v493] : Fin 2 → IVec S16 32) a x).toNat < S10000x8.size a)
theorem k1_idx25_inb : ∀ (v493 : IVec S16 32) (v499 : IVec S16 32) (k1_hw25 : k1_chk25 v493 v499), ∀ a x, ((![v499, v493] : Fin 2 → IVec S16 32) a x).toNat < S10000x8.size a := fun v493 v499 k1_hw25 => k1_hw25

def k1_chk26 (v493 : IVec S16 32) (v505 : IVec S16 32) : Prop :=
  (∀ a x, ((![v505, v493] : Fin 2 → IVec S16 32) a x).toNat < S10000x8.size a)
theorem k1_idx26_inb : ∀ (v493 : IVec S16 32) (v505 : IVec S16 32) (k1_hw26 : k1_chk26 v493 v505), ∀ a x, ((![v505, v493] : Fin 2 → IVec S16 32) a x).toNat < S10000x8.size a := fun v493 v505 k1_hw26 => k1_hw26

def k1_chk27 (v493 : IVec S16 32) (v511 : IVec S16 32) : Prop :=
  (∀ a x, ((![v511, v493] : Fin 2 → IVec S16 32) a x).toNat < S10000x8.size a)
theorem k1_idx27_inb : ∀ (v493 : IVec S16 32) (v511 : IVec S16 32) (k1_hw27 : k1_chk27 v493 v511), ∀ a x, ((![v511, v493] : Fin 2 → IVec S16 32) a x).toNat < S10000x8.size a := fun v493 v511 k1_hw27 => k1_hw27

def k1_chk28 (v493 : IVec S16 32) (v517 : IVec S16 32) : Prop :=
  (∀ a x, ((![v517, v493] : Fin 2 → IVec S16 32) a x).toNat < S10000x8.size a)
theorem k1_idx28_inb : ∀ (v493 : IVec S16 32) (v517 : IVec S16 32) (k1_hw28 : k1_chk28 v493 v517), ∀ a x, ((![v517, v493] : Fin 2 → IVec S16 32) a x).toNat < S10000x8.size a := fun v493 v517 k1_hw28 => k1_hw28

def k1_chk29 (v493 : IVec S16 32) (v523 : IVec S16 32) : Prop :=
  (∀ a x, ((![v523, v493] : Fin 2 → IVec S16 32) a x).toNat < S10000x8.size a)
theorem k1_idx29_inb : ∀ (v493 : IVec S16 32) (v523 : IVec S16 32) (k1_hw29 : k1_chk29 v493 v523), ∀ a x, ((![v523, v493] : Fin 2 → IVec S16 32) a x).toNat < S10000x8.size a := fun v493 v523 k1_hw29 => k1_hw29

def k1_chk30 (v493 : IVec S16 32) (v529 : IVec S16 32) : Prop :=
  (∀ a x, ((![v529, v493] : Fin 2 → IVec S16 32) a x).toNat < S10000x8.size a)
theorem k1_idx30_inb : ∀ (v493 : IVec S16 32) (v529 : IVec S16 32) (k1_hw30 : k1_chk30 v493 v529), ∀ a x, ((![v529, v493] : Fin 2 → IVec S16 32) a x).toNat < S10000x8.size a := fun v493 v529 k1_hw30 => k1_hw30

def k1_chk31 (v493 : IVec S16 32) (v535 : IVec S16 32) : Prop :=
  (∀ a x, ((![v535, v493] : Fin 2 → IVec S16 32) a x).toNat < S10000x8.size a)
theorem k1_idx31_inb : ∀ (v493 : IVec S16 32) (v535 : IVec S16 32) (k1_hw31 : k1_chk31 v493 v535), ∀ a x, ((![v535, v493] : Fin 2 → IVec S16 32) a x).toNat < S10000x8.size a := fun v493 v535 k1_hw31 => k1_hw31

def k1_chk32 (v493 : IVec S16 32) (v541 : IVec S16 32) : Prop :=
  (∀ a x, ((![v541, v493] : Fin 2 → IVec S16 32) a x).toNat < S10000x8.size a)
theorem k1_idx32_inb : ∀ (v493 : IVec S16 32) (v541 : IVec S16 32) (k1_hw32 : k1_chk32 v493 v541), ∀ a x, ((![v541, v493] : Fin 2 → IVec S16 32) a x).toNat < S10000x8.size a := fun v493 v541 k1_hw32 => k1_hw32
def k1_cond4 (k1_t4 : Fin k1_t4_loop.trips) : BitVec 1 :=
  let c2_i32_261 : BitVec 32 := 2#32
  let c0_i32_240 : BitVec 32 := 0#32
  let c0_i32_88 : BitVec 32 := 0#32
  let c1_i32_90 : BitVec 32 := 1#32
  let arg15 : BitVec 32 := Scf.iv c0_i32_88 c1_i32_90 k1_t4
  let c1_i32_239 : BitVec 32 := 1#32
  let v377 : BitVec 32 := Scalar.muli arg15 c1_i32_239
  let v378 : BitVec 32 := Scalar.addi c0_i32_240 v377
  let v407 : BitVec 32 := Scalar.muli c2_i32_261 v378
  let c1_i32_262 : BitVec 32 := 1#32
  let v408 : BitVec 32 := Scalar.addi v407 c1_i32_262
  let c2_i32_278 : BitVec 32 := 2#32
  let v431 : BitVec 32 := Scalar.addi v408 c2_i32_278
  let c16_i32_279 : BitVec 32 := 16#32
  let v432 : BitVec 1 := Scalar.cmpi .slt v431 c16_i32_279
  let v433 : BitVec 32 := Scalar.extui v432
  let c0_i32_280 : BitVec 32 := 0#32
  let v434 : BitVec 1 := Scalar.cmpi .ne v433 c0_i32_280
  v434

def k1_off10 (i : grid1.Coords) (k1_t4 : Fin k1_t4_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_77 : BitVec 32 := 32#32
  let v130 : BitVec 32 := Scalar.addi v1 c32_i32_77
  let c16_i32_78 : BitVec 32 := 16#32
  let v131 : BitVec 32 := Scalar.remsi v130 c16_i32_78
  let c8_i32_289 : BitVec 32 := 8#32
  let v453 : BitVec 32 := Scalar.muli v131 c8_i32_289
  let c2_i32_261 : BitVec 32 := 2#32
  let c0_i32_240 : BitVec 32 := 0#32
  let c0_i32_88 : BitVec 32 := 0#32
  let c1_i32_90 : BitVec 32 := 1#32
  let arg15 : BitVec 32 := Scf.iv c0_i32_88 c1_i32_90 k1_t4
  let c1_i32_239 : BitVec 32 := 1#32
  let v377 : BitVec 32 := Scalar.muli arg15 c1_i32_239
  let v378 : BitVec 32 := Scalar.addi c0_i32_240 v377
  let v407 : BitVec 32 := Scalar.muli c2_i32_261 v378
  let c1_i32_262 : BitVec 32 := 1#32
  let v408 : BitVec 32 := Scalar.addi v407 c1_i32_262
  let c2_i32_278 : BitVec 32 := 2#32
  let v431 : BitVec 32 := Scalar.addi v408 c2_i32_278
  let c0_i32_282 : BitVec 32 := 0#32
  let v436 : BitVec 1 := Scalar.cmpi .sgt v431 c0_i32_282
  let v437 : BitVec 32 := Scalar.extui v436
  let c0_i32_283 : BitVec 32 := 0#32
  let v438 : BitVec 1 := Scalar.cmpi .slt v431 c0_i32_283
  let v439 : BitVec 32 := Scalar.extui v438
  let v440 : BitVec 32 := Scalar.subi v437 v439
  let c2_i32_281 : BitVec 32 := 2#32
  let c0_i32_284 : BitVec 32 := 0#32
  let v441 : BitVec 1 := Scalar.cmpi .sgt c2_i32_281 c0_i32_284
  let v442 : BitVec 32 := Scalar.extui v441
  let c0_i32_285 : BitVec 32 := 0#32
  let v443 : BitVec 1 := Scalar.cmpi .slt c2_i32_281 c0_i32_285
  let v444 : BitVec 32 := Scalar.extui v443
  let v445 : BitVec 32 := Scalar.subi v442 v444
  let v446 : BitVec 1 := Scalar.cmpi .ne v440 v445
  let v447 : BitVec 32 := Scalar.remsi v431 c2_i32_281
  let c0_i32_286 : BitVec 32 := 0#32
  let v448 : BitVec 1 := Scalar.cmpi .ne v447 c0_i32_286
  let v449 : BitVec 1 := Scalar.andi v446 v448
  let v435 : BitVec 32 := Scalar.divsi v431 c2_i32_281
  let c1_i32_287 : BitVec 32 := 1#32
  let v450 : BitVec 32 := Scalar.subi v435 c1_i32_287
  let v451 : BitVec 32 := Scalar.select v449 v450 v435
  let v454 : BitVec 32 := Scalar.addi v453 v451
  let c16384_i32_290 : BitVec 32 := 16384#32
  let v455 : BitVec 32 := Scalar.muli v454 c16384_i32_290
  let c2_i32_288 : BitVec 32 := 2#32
  let v452 : BitVec 32 := Scalar.remsi v431 c2_i32_288
  let c8192_i32_291 : BitVec 32 := 8192#32
  let v456 : BitVec 32 := Scalar.muli v452 c8192_i32_291
  let v457 : BitVec 32 := Scalar.addi v455 v456
  ![v457.toNat]
@[reducible] def k1_t7_loop : Scf.Loop 32 :=
  let c0_i32_137 : BitVec 32 := 0#32
  let c8_i32_138 : BitVec 32 := 8#32
  let v226 : BitVec 32 := Scalar.addi c0_i32_137 c8_i32_138
  let c1_i32_139 : BitVec 32 := 1#32
  ⟨c0_i32_137, v226, c1_i32_139⟩
@[reducible] def k1_t8_loop : Scf.Loop 32 :=
  let c0_i32_254 : BitVec 32 := 0#32
  let c64_i32_255 : BitVec 32 := 64#32
  let v402 : BitVec 32 := Scalar.addi c0_i32_254 c64_i32_255
  let c1_i32_256 : BitVec 32 := 1#32
  ⟨c0_i32_254, v402, c1_i32_256⟩
def k1_off11 (k1_t8 : Fin k1_t8_loop.trips) (c0_i32_284 : BitVec 32) : Fin 1 → Nat :=
  let c0_i32_282 : BitVec 32 := 0#32
  let c0_i32_254 : BitVec 32 := 0#32
  let c1_i32_256 : BitVec 32 := 1#32
  let arg16 : BitVec 32 := Scf.iv c0_i32_254 c1_i32_256 k1_t8
  let c1_i32_281 : BitVec 32 := 1#32
  let v435 : BitVec 32 := Scalar.muli arg16 c1_i32_281
  let v436 : BitVec 32 := Scalar.addi c0_i32_282 v435
  let c8_i32_283 : BitVec 32 := 8#32
  let v437 : BitVec 32 := Scalar.muli v436 c8_i32_283
  let v438 : BitVec 32 := Scalar.addi v437 c0_i32_284
  let c16_i32_285 : BitVec 32 := 16#32
  let v439 : BitVec 32 := Scalar.muli v438 c16_i32_285
  let v440 : Index := Scalar.indexCast v439
  ![v440.toNat]

def k1_chk33 (v493 : IVec S16 32) (v499 : IVec S16 32) : Prop :=
  (∀ a x, ((![v499, v493] : Fin 2 → IVec S16 32) a x).toNat < S10000x8.size a)
theorem k1_idx33_inb : ∀ (v493 : IVec S16 32) (v499 : IVec S16 32) (k1_hw33 : k1_chk33 v493 v499), ∀ a x, ((![v499, v493] : Fin 2 → IVec S16 32) a x).toNat < S10000x8.size a := fun v493 v499 k1_hw33 => k1_hw33

def k1_chk34 (v493 : IVec S16 32) (v505 : IVec S16 32) : Prop :=
  (∀ a x, ((![v505, v493] : Fin 2 → IVec S16 32) a x).toNat < S10000x8.size a)
theorem k1_idx34_inb : ∀ (v493 : IVec S16 32) (v505 : IVec S16 32) (k1_hw34 : k1_chk34 v493 v505), ∀ a x, ((![v505, v493] : Fin 2 → IVec S16 32) a x).toNat < S10000x8.size a := fun v493 v505 k1_hw34 => k1_hw34

def k1_chk35 (v493 : IVec S16 32) (v511 : IVec S16 32) : Prop :=
  (∀ a x, ((![v511, v493] : Fin 2 → IVec S16 32) a x).toNat < S10000x8.size a)
theorem k1_idx35_inb : ∀ (v493 : IVec S16 32) (v511 : IVec S16 32) (k1_hw35 : k1_chk35 v493 v511), ∀ a x, ((![v511, v493] : Fin 2 → IVec S16 32) a x).toNat < S10000x8.size a := fun v493 v511 k1_hw35 => k1_hw35

def k1_chk36 (v493 : IVec S16 32) (v517 : IVec S16 32) : Prop :=
  (∀ a x, ((![v517, v493] : Fin 2 → IVec S16 32) a x).toNat < S10000x8.size a)
theorem k1_idx36_inb : ∀ (v493 : IVec S16 32) (v517 : IVec S16 32) (k1_hw36 : k1_chk36 v493 v517), ∀ a x, ((![v517, v493] : Fin 2 → IVec S16 32) a x).toNat < S10000x8.size a := fun v493 v517 k1_hw36 => k1_hw36

def k1_chk37 (v493 : IVec S16 32) (v523 : IVec S16 32) : Prop :=
  (∀ a x, ((![v523, v493] : Fin 2 → IVec S16 32) a x).toNat < S10000x8.size a)
theorem k1_idx37_inb : ∀ (v493 : IVec S16 32) (v523 : IVec S16 32) (k1_hw37 : k1_chk37 v493 v523), ∀ a x, ((![v523, v493] : Fin 2 → IVec S16 32) a x).toNat < S10000x8.size a := fun v493 v523 k1_hw37 => k1_hw37

def k1_chk38 (v493 : IVec S16 32) (v529 : IVec S16 32) : Prop :=
  (∀ a x, ((![v529, v493] : Fin 2 → IVec S16 32) a x).toNat < S10000x8.size a)
theorem k1_idx38_inb : ∀ (v493 : IVec S16 32) (v529 : IVec S16 32) (k1_hw38 : k1_chk38 v493 v529), ∀ a x, ((![v529, v493] : Fin 2 → IVec S16 32) a x).toNat < S10000x8.size a := fun v493 v529 k1_hw38 => k1_hw38

def k1_chk39 (v493 : IVec S16 32) (v535 : IVec S16 32) : Prop :=
  (∀ a x, ((![v535, v493] : Fin 2 → IVec S16 32) a x).toNat < S10000x8.size a)
theorem k1_idx39_inb : ∀ (v493 : IVec S16 32) (v535 : IVec S16 32) (k1_hw39 : k1_chk39 v493 v535), ∀ a x, ((![v535, v493] : Fin 2 → IVec S16 32) a x).toNat < S10000x8.size a := fun v493 v535 k1_hw39 => k1_hw39

def k1_chk40 (v493 : IVec S16 32) (v541 : IVec S16 32) : Prop :=
  (∀ a x, ((![v541, v493] : Fin 2 → IVec S16 32) a x).toNat < S10000x8.size a)
theorem k1_idx40_inb : ∀ (v493 : IVec S16 32) (v541 : IVec S16 32) (k1_hw40 : k1_chk40 v493 v541), ∀ a x, ((![v541, v493] : Fin 2 → IVec S16 32) a x).toNat < S10000x8.size a := fun v493 v541 k1_hw40 => k1_hw40
def k1_cond5 (k1_t7 : Fin k1_t7_loop.trips) : BitVec 1 :=
  let c2_i32_241 : BitVec 32 := 2#32
  let c0_i32_240 : BitVec 32 := 0#32
  let c0_i32_137 : BitVec 32 := 0#32
  let c1_i32_139 : BitVec 32 := 1#32
  let arg15 : BitVec 32 := Scf.iv c0_i32_137 c1_i32_139 k1_t7
  let c1_i32_239 : BitVec 32 := 1#32
  let v377 : BitVec 32 := Scalar.muli arg15 c1_i32_239
  let v378 : BitVec 32 := Scalar.addi c0_i32_240 v377
  let v379 : BitVec 32 := Scalar.muli c2_i32_241 v378
  let c0_i32_242 : BitVec 32 := 0#32
  let v380 : BitVec 32 := Scalar.addi v379 c0_i32_242
  let c2_i32_258 : BitVec 32 := 2#32
  let v403 : BitVec 32 := Scalar.addi v380 c2_i32_258
  let c16_i32_259 : BitVec 32 := 16#32
  let v404 : BitVec 1 := Scalar.cmpi .slt v403 c16_i32_259
  let v405 : BitVec 32 := Scalar.extui v404
  let c0_i32_260 : BitVec 32 := 0#32
  let v406 : BitVec 1 := Scalar.cmpi .ne v405 c0_i32_260
  v406

def k1_off12 (i : grid1.Coords) (k1_t7 : Fin k1_t7_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_126 : BitVec 32 := 64#32
  let v205 : BitVec 32 := Scalar.addi v1 c64_i32_126
  let c16_i32_127 : BitVec 32 := 16#32
  let v206 : BitVec 32 := Scalar.remsi v205 c16_i32_127
  let c8_i32_289 : BitVec 32 := 8#32
  let v453 : BitVec 32 := Scalar.muli v206 c8_i32_289
  let c2_i32_241 : BitVec 32 := 2#32
  let c0_i32_240 : BitVec 32 := 0#32
  let c0_i32_137 : BitVec 32 := 0#32
  let c1_i32_139 : BitVec 32 := 1#32
  let arg15 : BitVec 32 := Scf.iv c0_i32_137 c1_i32_139 k1_t7
  let c1_i32_239 : BitVec 32 := 1#32
  let v377 : BitVec 32 := Scalar.muli arg15 c1_i32_239
  let v378 : BitVec 32 := Scalar.addi c0_i32_240 v377
  let v379 : BitVec 32 := Scalar.muli c2_i32_241 v378
  let c0_i32_242 : BitVec 32 := 0#32
  let v380 : BitVec 32 := Scalar.addi v379 c0_i32_242
  let c2_i32_258 : BitVec 32 := 2#32
  let v403 : BitVec 32 := Scalar.addi v380 c2_i32_258
  let c0_i32_282 : BitVec 32 := 0#32
  let v436 : BitVec 1 := Scalar.cmpi .sgt v403 c0_i32_282
  let v437 : BitVec 32 := Scalar.extui v436
  let c0_i32_283 : BitVec 32 := 0#32
  let v438 : BitVec 1 := Scalar.cmpi .slt v403 c0_i32_283
  let v439 : BitVec 32 := Scalar.extui v438
  let v440 : BitVec 32 := Scalar.subi v437 v439
  let c2_i32_281 : BitVec 32 := 2#32
  let c0_i32_284 : BitVec 32 := 0#32
  let v441 : BitVec 1 := Scalar.cmpi .sgt c2_i32_281 c0_i32_284
  let v442 : BitVec 32 := Scalar.extui v441
  let c0_i32_285 : BitVec 32 := 0#32
  let v443 : BitVec 1 := Scalar.cmpi .slt c2_i32_281 c0_i32_285
  let v444 : BitVec 32 := Scalar.extui v443
  let v445 : BitVec 32 := Scalar.subi v442 v444
  let v446 : BitVec 1 := Scalar.cmpi .ne v440 v445
  let v447 : BitVec 32 := Scalar.remsi v403 c2_i32_281
  let c0_i32_286 : BitVec 32 := 0#32
  let v448 : BitVec 1 := Scalar.cmpi .ne v447 c0_i32_286
  let v449 : BitVec 1 := Scalar.andi v446 v448
  let v435 : BitVec 32 := Scalar.divsi v403 c2_i32_281
  let c1_i32_287 : BitVec 32 := 1#32
  let v450 : BitVec 32 := Scalar.subi v435 c1_i32_287
  let v451 : BitVec 32 := Scalar.select v449 v450 v435
  let v454 : BitVec 32 := Scalar.addi v453 v451
  let c16384_i32_290 : BitVec 32 := 16384#32
  let v455 : BitVec 32 := Scalar.muli v454 c16384_i32_290
  let c2_i32_288 : BitVec 32 := 2#32
  let v452 : BitVec 32 := Scalar.remsi v403 c2_i32_288
  let c8192_i32_291 : BitVec 32 := 8192#32
  let v456 : BitVec 32 := Scalar.muli v452 c8192_i32_291
  let v457 : BitVec 32 := Scalar.addi v455 v456
  ![v457.toNat]
@[reducible] def k1_t9_loop : Scf.Loop 32 :=
  let c0_i32_274 : BitVec 32 := 0#32
  let c64_i32_275 : BitVec 32 := 64#32
  let v430 : BitVec 32 := Scalar.addi c0_i32_274 c64_i32_275
  let c1_i32_276 : BitVec 32 := 1#32
  ⟨c0_i32_274, v430, c1_i32_276⟩
def k1_off13 (k1_t9 : Fin k1_t9_loop.trips) (c0_i32_284 : BitVec 32) : Fin 1 → Nat :=
  let c0_i32_282 : BitVec 32 := 0#32
  let c0_i32_274 : BitVec 32 := 0#32
  let c1_i32_276 : BitVec 32 := 1#32
  let arg16 : BitVec 32 := Scf.iv c0_i32_274 c1_i32_276 k1_t9
  let c1_i32_281 : BitVec 32 := 1#32
  let v435 : BitVec 32 := Scalar.muli arg16 c1_i32_281
  let v436 : BitVec 32 := Scalar.addi c0_i32_282 v435
  let c8_i32_283 : BitVec 32 := 8#32
  let v437 : BitVec 32 := Scalar.muli v436 c8_i32_283
  let v438 : BitVec 32 := Scalar.addi v437 c0_i32_284
  let c16_i32_285 : BitVec 32 := 16#32
  let v439 : BitVec 32 := Scalar.muli v438 c16_i32_285
  let v440 : Index := Scalar.indexCast v439
  ![v440.toNat]

def k1_chk41 (v493 : IVec S16 32) (v499 : IVec S16 32) : Prop :=
  (∀ a x, ((![v499, v493] : Fin 2 → IVec S16 32) a x).toNat < S10000x8.size a)
theorem k1_idx41_inb : ∀ (v493 : IVec S16 32) (v499 : IVec S16 32) (k1_hw41 : k1_chk41 v493 v499), ∀ a x, ((![v499, v493] : Fin 2 → IVec S16 32) a x).toNat < S10000x8.size a := fun v493 v499 k1_hw41 => k1_hw41

def k1_chk42 (v493 : IVec S16 32) (v505 : IVec S16 32) : Prop :=
  (∀ a x, ((![v505, v493] : Fin 2 → IVec S16 32) a x).toNat < S10000x8.size a)
theorem k1_idx42_inb : ∀ (v493 : IVec S16 32) (v505 : IVec S16 32) (k1_hw42 : k1_chk42 v493 v505), ∀ a x, ((![v505, v493] : Fin 2 → IVec S16 32) a x).toNat < S10000x8.size a := fun v493 v505 k1_hw42 => k1_hw42

def k1_chk43 (v493 : IVec S16 32) (v511 : IVec S16 32) : Prop :=
  (∀ a x, ((![v511, v493] : Fin 2 → IVec S16 32) a x).toNat < S10000x8.size a)
theorem k1_idx43_inb : ∀ (v493 : IVec S16 32) (v511 : IVec S16 32) (k1_hw43 : k1_chk43 v493 v511), ∀ a x, ((![v511, v493] : Fin 2 → IVec S16 32) a x).toNat < S10000x8.size a := fun v493 v511 k1_hw43 => k1_hw43

def k1_chk44 (v493 : IVec S16 32) (v517 : IVec S16 32) : Prop :=
  (∀ a x, ((![v517, v493] : Fin 2 → IVec S16 32) a x).toNat < S10000x8.size a)
theorem k1_idx44_inb : ∀ (v493 : IVec S16 32) (v517 : IVec S16 32) (k1_hw44 : k1_chk44 v493 v517), ∀ a x, ((![v517, v493] : Fin 2 → IVec S16 32) a x).toNat < S10000x8.size a := fun v493 v517 k1_hw44 => k1_hw44

def k1_chk45 (v493 : IVec S16 32) (v523 : IVec S16 32) : Prop :=
  (∀ a x, ((![v523, v493] : Fin 2 → IVec S16 32) a x).toNat < S10000x8.size a)
theorem k1_idx45_inb : ∀ (v493 : IVec S16 32) (v523 : IVec S16 32) (k1_hw45 : k1_chk45 v493 v523), ∀ a x, ((![v523, v493] : Fin 2 → IVec S16 32) a x).toNat < S10000x8.size a := fun v493 v523 k1_hw45 => k1_hw45

def k1_chk46 (v493 : IVec S16 32) (v529 : IVec S16 32) : Prop :=
  (∀ a x, ((![v529, v493] : Fin 2 → IVec S16 32) a x).toNat < S10000x8.size a)
theorem k1_idx46_inb : ∀ (v493 : IVec S16 32) (v529 : IVec S16 32) (k1_hw46 : k1_chk46 v493 v529), ∀ a x, ((![v529, v493] : Fin 2 → IVec S16 32) a x).toNat < S10000x8.size a := fun v493 v529 k1_hw46 => k1_hw46

def k1_chk47 (v493 : IVec S16 32) (v535 : IVec S16 32) : Prop :=
  (∀ a x, ((![v535, v493] : Fin 2 → IVec S16 32) a x).toNat < S10000x8.size a)
theorem k1_idx47_inb : ∀ (v493 : IVec S16 32) (v535 : IVec S16 32) (k1_hw47 : k1_chk47 v493 v535), ∀ a x, ((![v535, v493] : Fin 2 → IVec S16 32) a x).toNat < S10000x8.size a := fun v493 v535 k1_hw47 => k1_hw47

def k1_chk48 (v493 : IVec S16 32) (v541 : IVec S16 32) : Prop :=
  (∀ a x, ((![v541, v493] : Fin 2 → IVec S16 32) a x).toNat < S10000x8.size a)
theorem k1_idx48_inb : ∀ (v493 : IVec S16 32) (v541 : IVec S16 32) (k1_hw48 : k1_chk48 v493 v541), ∀ a x, ((![v541, v493] : Fin 2 → IVec S16 32) a x).toNat < S10000x8.size a := fun v493 v541 k1_hw48 => k1_hw48
def k1_cond6 (k1_t7 : Fin k1_t7_loop.trips) : BitVec 1 :=
  let c2_i32_261 : BitVec 32 := 2#32
  let c0_i32_240 : BitVec 32 := 0#32
  let c0_i32_137 : BitVec 32 := 0#32
  let c1_i32_139 : BitVec 32 := 1#32
  let arg15 : BitVec 32 := Scf.iv c0_i32_137 c1_i32_139 k1_t7
  let c1_i32_239 : BitVec 32 := 1#32
  let v377 : BitVec 32 := Scalar.muli arg15 c1_i32_239
  let v378 : BitVec 32 := Scalar.addi c0_i32_240 v377
  let v407 : BitVec 32 := Scalar.muli c2_i32_261 v378
  let c1_i32_262 : BitVec 32 := 1#32
  let v408 : BitVec 32 := Scalar.addi v407 c1_i32_262
  let c2_i32_278 : BitVec 32 := 2#32
  let v431 : BitVec 32 := Scalar.addi v408 c2_i32_278
  let c16_i32_279 : BitVec 32 := 16#32
  let v432 : BitVec 1 := Scalar.cmpi .slt v431 c16_i32_279
  let v433 : BitVec 32 := Scalar.extui v432
  let c0_i32_280 : BitVec 32 := 0#32
  let v434 : BitVec 1 := Scalar.cmpi .ne v433 c0_i32_280
  v434

def k1_off14 (i : grid1.Coords) (k1_t7 : Fin k1_t7_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_126 : BitVec 32 := 64#32
  let v205 : BitVec 32 := Scalar.addi v1 c64_i32_126
  let c16_i32_127 : BitVec 32 := 16#32
  let v206 : BitVec 32 := Scalar.remsi v205 c16_i32_127
  let c8_i32_289 : BitVec 32 := 8#32
  let v453 : BitVec 32 := Scalar.muli v206 c8_i32_289
  let c2_i32_261 : BitVec 32 := 2#32
  let c0_i32_240 : BitVec 32 := 0#32
  let c0_i32_137 : BitVec 32 := 0#32
  let c1_i32_139 : BitVec 32 := 1#32
  let arg15 : BitVec 32 := Scf.iv c0_i32_137 c1_i32_139 k1_t7
  let c1_i32_239 : BitVec 32 := 1#32
  let v377 : BitVec 32 := Scalar.muli arg15 c1_i32_239
  let v378 : BitVec 32 := Scalar.addi c0_i32_240 v377
  let v407 : BitVec 32 := Scalar.muli c2_i32_261 v378
  let c1_i32_262 : BitVec 32 := 1#32
  let v408 : BitVec 32 := Scalar.addi v407 c1_i32_262
  let c2_i32_278 : BitVec 32 := 2#32
  let v431 : BitVec 32 := Scalar.addi v408 c2_i32_278
  let c0_i32_282 : BitVec 32 := 0#32
  let v436 : BitVec 1 := Scalar.cmpi .sgt v431 c0_i32_282
  let v437 : BitVec 32 := Scalar.extui v436
  let c0_i32_283 : BitVec 32 := 0#32
  let v438 : BitVec 1 := Scalar.cmpi .slt v431 c0_i32_283
  let v439 : BitVec 32 := Scalar.extui v438
  let v440 : BitVec 32 := Scalar.subi v437 v439
  let c2_i32_281 : BitVec 32 := 2#32
  let c0_i32_284 : BitVec 32 := 0#32
  let v441 : BitVec 1 := Scalar.cmpi .sgt c2_i32_281 c0_i32_284
  let v442 : BitVec 32 := Scalar.extui v441
  let c0_i32_285 : BitVec 32 := 0#32
  let v443 : BitVec 1 := Scalar.cmpi .slt c2_i32_281 c0_i32_285
  let v444 : BitVec 32 := Scalar.extui v443
  let v445 : BitVec 32 := Scalar.subi v442 v444
  let v446 : BitVec 1 := Scalar.cmpi .ne v440 v445
  let v447 : BitVec 32 := Scalar.remsi v431 c2_i32_281
  let c0_i32_286 : BitVec 32 := 0#32
  let v448 : BitVec 1 := Scalar.cmpi .ne v447 c0_i32_286
  let v449 : BitVec 1 := Scalar.andi v446 v448
  let v435 : BitVec 32 := Scalar.divsi v431 c2_i32_281
  let c1_i32_287 : BitVec 32 := 1#32
  let v450 : BitVec 32 := Scalar.subi v435 c1_i32_287
  let v451 : BitVec 32 := Scalar.select v449 v450 v435
  let v454 : BitVec 32 := Scalar.addi v453 v451
  let c16384_i32_290 : BitVec 32 := 16384#32
  let v455 : BitVec 32 := Scalar.muli v454 c16384_i32_290
  let c2_i32_288 : BitVec 32 := 2#32
  let v452 : BitVec 32 := Scalar.remsi v431 c2_i32_288
  let c8192_i32_291 : BitVec 32 := 8192#32
  let v456 : BitVec 32 := Scalar.muli v452 c8192_i32_291
  let v457 : BitVec 32 := Scalar.addi v455 v456
  ![v457.toNat]
@[reducible] def k1_t10_loop : Scf.Loop 32 :=
  let c0_i32_186 : BitVec 32 := 0#32
  let c8_i32_187 : BitVec 32 := 8#32
  let v301 : BitVec 32 := Scalar.addi c0_i32_186 c8_i32_187
  let c1_i32_188 : BitVec 32 := 1#32
  ⟨c0_i32_186, v301, c1_i32_188⟩
@[reducible] def k1_t11_loop : Scf.Loop 32 :=
  let c0_i32_254 : BitVec 32 := 0#32
  let c64_i32_255 : BitVec 32 := 64#32
  let v402 : BitVec 32 := Scalar.addi c0_i32_254 c64_i32_255
  let c1_i32_256 : BitVec 32 := 1#32
  ⟨c0_i32_254, v402, c1_i32_256⟩
def k1_off15 (k1_t11 : Fin k1_t11_loop.trips) (c0_i32_284 : BitVec 32) : Fin 1 → Nat :=
  let c0_i32_282 : BitVec 32 := 0#32
  let c0_i32_254 : BitVec 32 := 0#32
  let c1_i32_256 : BitVec 32 := 1#32
  let arg16 : BitVec 32 := Scf.iv c0_i32_254 c1_i32_256 k1_t11
  let c1_i32_281 : BitVec 32 := 1#32
  let v435 : BitVec 32 := Scalar.muli arg16 c1_i32_281
  let v436 : BitVec 32 := Scalar.addi c0_i32_282 v435
  let c8_i32_283 : BitVec 32 := 8#32
  let v437 : BitVec 32 := Scalar.muli v436 c8_i32_283
  let v438 : BitVec 32 := Scalar.addi v437 c0_i32_284
  let c16_i32_285 : BitVec 32 := 16#32
  let v439 : BitVec 32 := Scalar.muli v438 c16_i32_285
  let v440 : Index := Scalar.indexCast v439
  ![v440.toNat]

def k1_chk49 (v493 : IVec S16 32) (v499 : IVec S16 32) : Prop :=
  (∀ a x, ((![v499, v493] : Fin 2 → IVec S16 32) a x).toNat < S10000x8.size a)
theorem k1_idx49_inb : ∀ (v493 : IVec S16 32) (v499 : IVec S16 32) (k1_hw49 : k1_chk49 v493 v499), ∀ a x, ((![v499, v493] : Fin 2 → IVec S16 32) a x).toNat < S10000x8.size a := fun v493 v499 k1_hw49 => k1_hw49

def k1_chk50 (v493 : IVec S16 32) (v505 : IVec S16 32) : Prop :=
  (∀ a x, ((![v505, v493] : Fin 2 → IVec S16 32) a x).toNat < S10000x8.size a)
theorem k1_idx50_inb : ∀ (v493 : IVec S16 32) (v505 : IVec S16 32) (k1_hw50 : k1_chk50 v493 v505), ∀ a x, ((![v505, v493] : Fin 2 → IVec S16 32) a x).toNat < S10000x8.size a := fun v493 v505 k1_hw50 => k1_hw50

def k1_chk51 (v493 : IVec S16 32) (v511 : IVec S16 32) : Prop :=
  (∀ a x, ((![v511, v493] : Fin 2 → IVec S16 32) a x).toNat < S10000x8.size a)
theorem k1_idx51_inb : ∀ (v493 : IVec S16 32) (v511 : IVec S16 32) (k1_hw51 : k1_chk51 v493 v511), ∀ a x, ((![v511, v493] : Fin 2 → IVec S16 32) a x).toNat < S10000x8.size a := fun v493 v511 k1_hw51 => k1_hw51

def k1_chk52 (v493 : IVec S16 32) (v517 : IVec S16 32) : Prop :=
  (∀ a x, ((![v517, v493] : Fin 2 → IVec S16 32) a x).toNat < S10000x8.size a)
theorem k1_idx52_inb : ∀ (v493 : IVec S16 32) (v517 : IVec S16 32) (k1_hw52 : k1_chk52 v493 v517), ∀ a x, ((![v517, v493] : Fin 2 → IVec S16 32) a x).toNat < S10000x8.size a := fun v493 v517 k1_hw52 => k1_hw52

def k1_chk53 (v493 : IVec S16 32) (v523 : IVec S16 32) : Prop :=
  (∀ a x, ((![v523, v493] : Fin 2 → IVec S16 32) a x).toNat < S10000x8.size a)
theorem k1_idx53_inb : ∀ (v493 : IVec S16 32) (v523 : IVec S16 32) (k1_hw53 : k1_chk53 v493 v523), ∀ a x, ((![v523, v493] : Fin 2 → IVec S16 32) a x).toNat < S10000x8.size a := fun v493 v523 k1_hw53 => k1_hw53

def k1_chk54 (v493 : IVec S16 32) (v529 : IVec S16 32) : Prop :=
  (∀ a x, ((![v529, v493] : Fin 2 → IVec S16 32) a x).toNat < S10000x8.size a)
theorem k1_idx54_inb : ∀ (v493 : IVec S16 32) (v529 : IVec S16 32) (k1_hw54 : k1_chk54 v493 v529), ∀ a x, ((![v529, v493] : Fin 2 → IVec S16 32) a x).toNat < S10000x8.size a := fun v493 v529 k1_hw54 => k1_hw54

def k1_chk55 (v493 : IVec S16 32) (v535 : IVec S16 32) : Prop :=
  (∀ a x, ((![v535, v493] : Fin 2 → IVec S16 32) a x).toNat < S10000x8.size a)
theorem k1_idx55_inb : ∀ (v493 : IVec S16 32) (v535 : IVec S16 32) (k1_hw55 : k1_chk55 v493 v535), ∀ a x, ((![v535, v493] : Fin 2 → IVec S16 32) a x).toNat < S10000x8.size a := fun v493 v535 k1_hw55 => k1_hw55

def k1_chk56 (v493 : IVec S16 32) (v541 : IVec S16 32) : Prop :=
  (∀ a x, ((![v541, v493] : Fin 2 → IVec S16 32) a x).toNat < S10000x8.size a)
theorem k1_idx56_inb : ∀ (v493 : IVec S16 32) (v541 : IVec S16 32) (k1_hw56 : k1_chk56 v493 v541), ∀ a x, ((![v541, v493] : Fin 2 → IVec S16 32) a x).toNat < S10000x8.size a := fun v493 v541 k1_hw56 => k1_hw56
def k1_cond7 (k1_t10 : Fin k1_t10_loop.trips) : BitVec 1 :=
  let c2_i32_241 : BitVec 32 := 2#32
  let c0_i32_240 : BitVec 32 := 0#32
  let c0_i32_186 : BitVec 32 := 0#32
  let c1_i32_188 : BitVec 32 := 1#32
  let arg15 : BitVec 32 := Scf.iv c0_i32_186 c1_i32_188 k1_t10
  let c1_i32_239 : BitVec 32 := 1#32
  let v377 : BitVec 32 := Scalar.muli arg15 c1_i32_239
  let v378 : BitVec 32 := Scalar.addi c0_i32_240 v377
  let v379 : BitVec 32 := Scalar.muli c2_i32_241 v378
  let c0_i32_242 : BitVec 32 := 0#32
  let v380 : BitVec 32 := Scalar.addi v379 c0_i32_242
  let c2_i32_258 : BitVec 32 := 2#32
  let v403 : BitVec 32 := Scalar.addi v380 c2_i32_258
  let c16_i32_259 : BitVec 32 := 16#32
  let v404 : BitVec 1 := Scalar.cmpi .slt v403 c16_i32_259
  let v405 : BitVec 32 := Scalar.extui v404
  let c0_i32_260 : BitVec 32 := 0#32
  let v406 : BitVec 1 := Scalar.cmpi .ne v405 c0_i32_260
  v406

def k1_off16 (i : grid1.Coords) (k1_t10 : Fin k1_t10_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_175 : BitVec 32 := 96#32
  let v280 : BitVec 32 := Scalar.addi v1 c96_i32_175
  let c16_i32_176 : BitVec 32 := 16#32
  let v281 : BitVec 32 := Scalar.remsi v280 c16_i32_176
  let c8_i32_289 : BitVec 32 := 8#32
  let v453 : BitVec 32 := Scalar.muli v281 c8_i32_289
  let c2_i32_241 : BitVec 32 := 2#32
  let c0_i32_240 : BitVec 32 := 0#32
  let c0_i32_186 : BitVec 32 := 0#32
  let c1_i32_188 : BitVec 32 := 1#32
  let arg15 : BitVec 32 := Scf.iv c0_i32_186 c1_i32_188 k1_t10
  let c1_i32_239 : BitVec 32 := 1#32
  let v377 : BitVec 32 := Scalar.muli arg15 c1_i32_239
  let v378 : BitVec 32 := Scalar.addi c0_i32_240 v377
  let v379 : BitVec 32 := Scalar.muli c2_i32_241 v378
  let c0_i32_242 : BitVec 32 := 0#32
  let v380 : BitVec 32 := Scalar.addi v379 c0_i32_242
  let c2_i32_258 : BitVec 32 := 2#32
  let v403 : BitVec 32 := Scalar.addi v380 c2_i32_258
  let c0_i32_282 : BitVec 32 := 0#32
  let v436 : BitVec 1 := Scalar.cmpi .sgt v403 c0_i32_282
  let v437 : BitVec 32 := Scalar.extui v436
  let c0_i32_283 : BitVec 32 := 0#32
  let v438 : BitVec 1 := Scalar.cmpi .slt v403 c0_i32_283
  let v439 : BitVec 32 := Scalar.extui v438
  let v440 : BitVec 32 := Scalar.subi v437 v439
  let c2_i32_281 : BitVec 32 := 2#32
  let c0_i32_284 : BitVec 32 := 0#32
  let v441 : BitVec 1 := Scalar.cmpi .sgt c2_i32_281 c0_i32_284
  let v442 : BitVec 32 := Scalar.extui v441
  let c0_i32_285 : BitVec 32 := 0#32
  let v443 : BitVec 1 := Scalar.cmpi .slt c2_i32_281 c0_i32_285
  let v444 : BitVec 32 := Scalar.extui v443
  let v445 : BitVec 32 := Scalar.subi v442 v444
  let v446 : BitVec 1 := Scalar.cmpi .ne v440 v445
  let v447 : BitVec 32 := Scalar.remsi v403 c2_i32_281
  let c0_i32_286 : BitVec 32 := 0#32
  let v448 : BitVec 1 := Scalar.cmpi .ne v447 c0_i32_286
  let v449 : BitVec 1 := Scalar.andi v446 v448
  let v435 : BitVec 32 := Scalar.divsi v403 c2_i32_281
  let c1_i32_287 : BitVec 32 := 1#32
  let v450 : BitVec 32 := Scalar.subi v435 c1_i32_287
  let v451 : BitVec 32 := Scalar.select v449 v450 v435
  let v454 : BitVec 32 := Scalar.addi v453 v451
  let c16384_i32_290 : BitVec 32 := 16384#32
  let v455 : BitVec 32 := Scalar.muli v454 c16384_i32_290
  let c2_i32_288 : BitVec 32 := 2#32
  let v452 : BitVec 32 := Scalar.remsi v403 c2_i32_288
  let c8192_i32_291 : BitVec 32 := 8192#32
  let v456 : BitVec 32 := Scalar.muli v452 c8192_i32_291
  let v457 : BitVec 32 := Scalar.addi v455 v456
  ![v457.toNat]
@[reducible] def k1_t12_loop : Scf.Loop 32 :=
  let c0_i32_274 : BitVec 32 := 0#32
  let c64_i32_275 : BitVec 32 := 64#32
  let v430 : BitVec 32 := Scalar.addi c0_i32_274 c64_i32_275
  let c1_i32_276 : BitVec 32 := 1#32
  ⟨c0_i32_274, v430, c1_i32_276⟩
def k1_off17 (k1_t12 : Fin k1_t12_loop.trips) (c0_i32_284 : BitVec 32) : Fin 1 → Nat :=
  let c0_i32_282 : BitVec 32 := 0#32
  let c0_i32_274 : BitVec 32 := 0#32
  let c1_i32_276 : BitVec 32 := 1#32
  let arg16 : BitVec 32 := Scf.iv c0_i32_274 c1_i32_276 k1_t12
  let c1_i32_281 : BitVec 32 := 1#32
  let v435 : BitVec 32 := Scalar.muli arg16 c1_i32_281
  let v436 : BitVec 32 := Scalar.addi c0_i32_282 v435
  let c8_i32_283 : BitVec 32 := 8#32
  let v437 : BitVec 32 := Scalar.muli v436 c8_i32_283
  let v438 : BitVec 32 := Scalar.addi v437 c0_i32_284
  let c16_i32_285 : BitVec 32 := 16#32
  let v439 : BitVec 32 := Scalar.muli v438 c16_i32_285
  let v440 : Index := Scalar.indexCast v439
  ![v440.toNat]

def k1_chk57 (v493 : IVec S16 32) (v499 : IVec S16 32) : Prop :=
  (∀ a x, ((![v499, v493] : Fin 2 → IVec S16 32) a x).toNat < S10000x8.size a)
theorem k1_idx57_inb : ∀ (v493 : IVec S16 32) (v499 : IVec S16 32) (k1_hw57 : k1_chk57 v493 v499), ∀ a x, ((![v499, v493] : Fin 2 → IVec S16 32) a x).toNat < S10000x8.size a := fun v493 v499 k1_hw57 => k1_hw57

def k1_chk58 (v493 : IVec S16 32) (v505 : IVec S16 32) : Prop :=
  (∀ a x, ((![v505, v493] : Fin 2 → IVec S16 32) a x).toNat < S10000x8.size a)
theorem k1_idx58_inb : ∀ (v493 : IVec S16 32) (v505 : IVec S16 32) (k1_hw58 : k1_chk58 v493 v505), ∀ a x, ((![v505, v493] : Fin 2 → IVec S16 32) a x).toNat < S10000x8.size a := fun v493 v505 k1_hw58 => k1_hw58

def k1_chk59 (v493 : IVec S16 32) (v511 : IVec S16 32) : Prop :=
  (∀ a x, ((![v511, v493] : Fin 2 → IVec S16 32) a x).toNat < S10000x8.size a)
theorem k1_idx59_inb : ∀ (v493 : IVec S16 32) (v511 : IVec S16 32) (k1_hw59 : k1_chk59 v493 v511), ∀ a x, ((![v511, v493] : Fin 2 → IVec S16 32) a x).toNat < S10000x8.size a := fun v493 v511 k1_hw59 => k1_hw59

def k1_chk60 (v493 : IVec S16 32) (v517 : IVec S16 32) : Prop :=
  (∀ a x, ((![v517, v493] : Fin 2 → IVec S16 32) a x).toNat < S10000x8.size a)
theorem k1_idx60_inb : ∀ (v493 : IVec S16 32) (v517 : IVec S16 32) (k1_hw60 : k1_chk60 v493 v517), ∀ a x, ((![v517, v493] : Fin 2 → IVec S16 32) a x).toNat < S10000x8.size a := fun v493 v517 k1_hw60 => k1_hw60

def k1_chk61 (v493 : IVec S16 32) (v523 : IVec S16 32) : Prop :=
  (∀ a x, ((![v523, v493] : Fin 2 → IVec S16 32) a x).toNat < S10000x8.size a)
theorem k1_idx61_inb : ∀ (v493 : IVec S16 32) (v523 : IVec S16 32) (k1_hw61 : k1_chk61 v493 v523), ∀ a x, ((![v523, v493] : Fin 2 → IVec S16 32) a x).toNat < S10000x8.size a := fun v493 v523 k1_hw61 => k1_hw61

def k1_chk62 (v493 : IVec S16 32) (v529 : IVec S16 32) : Prop :=
  (∀ a x, ((![v529, v493] : Fin 2 → IVec S16 32) a x).toNat < S10000x8.size a)
theorem k1_idx62_inb : ∀ (v493 : IVec S16 32) (v529 : IVec S16 32) (k1_hw62 : k1_chk62 v493 v529), ∀ a x, ((![v529, v493] : Fin 2 → IVec S16 32) a x).toNat < S10000x8.size a := fun v493 v529 k1_hw62 => k1_hw62

def k1_chk63 (v493 : IVec S16 32) (v535 : IVec S16 32) : Prop :=
  (∀ a x, ((![v535, v493] : Fin 2 → IVec S16 32) a x).toNat < S10000x8.size a)
theorem k1_idx63_inb : ∀ (v493 : IVec S16 32) (v535 : IVec S16 32) (k1_hw63 : k1_chk63 v493 v535), ∀ a x, ((![v535, v493] : Fin 2 → IVec S16 32) a x).toNat < S10000x8.size a := fun v493 v535 k1_hw63 => k1_hw63

def k1_chk64 (v493 : IVec S16 32) (v541 : IVec S16 32) : Prop :=
  (∀ a x, ((![v541, v493] : Fin 2 → IVec S16 32) a x).toNat < S10000x8.size a)
theorem k1_idx64_inb : ∀ (v493 : IVec S16 32) (v541 : IVec S16 32) (k1_hw64 : k1_chk64 v493 v541), ∀ a x, ((![v541, v493] : Fin 2 → IVec S16 32) a x).toNat < S10000x8.size a := fun v493 v541 k1_hw64 => k1_hw64
def k1_cond8 (k1_t10 : Fin k1_t10_loop.trips) : BitVec 1 :=
  let c2_i32_261 : BitVec 32 := 2#32
  let c0_i32_240 : BitVec 32 := 0#32
  let c0_i32_186 : BitVec 32 := 0#32
  let c1_i32_188 : BitVec 32 := 1#32
  let arg15 : BitVec 32 := Scf.iv c0_i32_186 c1_i32_188 k1_t10
  let c1_i32_239 : BitVec 32 := 1#32
  let v377 : BitVec 32 := Scalar.muli arg15 c1_i32_239
  let v378 : BitVec 32 := Scalar.addi c0_i32_240 v377
  let v407 : BitVec 32 := Scalar.muli c2_i32_261 v378
  let c1_i32_262 : BitVec 32 := 1#32
  let v408 : BitVec 32 := Scalar.addi v407 c1_i32_262
  let c2_i32_278 : BitVec 32 := 2#32
  let v431 : BitVec 32 := Scalar.addi v408 c2_i32_278
  let c16_i32_279 : BitVec 32 := 16#32
  let v432 : BitVec 1 := Scalar.cmpi .slt v431 c16_i32_279
  let v433 : BitVec 32 := Scalar.extui v432
  let c0_i32_280 : BitVec 32 := 0#32
  let v434 : BitVec 1 := Scalar.cmpi .ne v433 c0_i32_280
  v434

def k1_off18 (i : grid1.Coords) (k1_t10 : Fin k1_t10_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_175 : BitVec 32 := 96#32
  let v280 : BitVec 32 := Scalar.addi v1 c96_i32_175
  let c16_i32_176 : BitVec 32 := 16#32
  let v281 : BitVec 32 := Scalar.remsi v280 c16_i32_176
  let c8_i32_289 : BitVec 32 := 8#32
  let v453 : BitVec 32 := Scalar.muli v281 c8_i32_289
  let c2_i32_261 : BitVec 32 := 2#32
  let c0_i32_240 : BitVec 32 := 0#32
  let c0_i32_186 : BitVec 32 := 0#32
  let c1_i32_188 : BitVec 32 := 1#32
  let arg15 : BitVec 32 := Scf.iv c0_i32_186 c1_i32_188 k1_t10
  let c1_i32_239 : BitVec 32 := 1#32
  let v377 : BitVec 32 := Scalar.muli arg15 c1_i32_239
  let v378 : BitVec 32 := Scalar.addi c0_i32_240 v377
  let v407 : BitVec 32 := Scalar.muli c2_i32_261 v378
  let c1_i32_262 : BitVec 32 := 1#32
  let v408 : BitVec 32 := Scalar.addi v407 c1_i32_262
  let c2_i32_278 : BitVec 32 := 2#32
  let v431 : BitVec 32 := Scalar.addi v408 c2_i32_278
  let c0_i32_282 : BitVec 32 := 0#32
  let v436 : BitVec 1 := Scalar.cmpi .sgt v431 c0_i32_282
  let v437 : BitVec 32 := Scalar.extui v436
  let c0_i32_283 : BitVec 32 := 0#32
  let v438 : BitVec 1 := Scalar.cmpi .slt v431 c0_i32_283
  let v439 : BitVec 32 := Scalar.extui v438
  let v440 : BitVec 32 := Scalar.subi v437 v439
  let c2_i32_281 : BitVec 32 := 2#32
  let c0_i32_284 : BitVec 32 := 0#32
  let v441 : BitVec 1 := Scalar.cmpi .sgt c2_i32_281 c0_i32_284
  let v442 : BitVec 32 := Scalar.extui v441
  let c0_i32_285 : BitVec 32 := 0#32
  let v443 : BitVec 1 := Scalar.cmpi .slt c2_i32_281 c0_i32_285
  let v444 : BitVec 32 := Scalar.extui v443
  let v445 : BitVec 32 := Scalar.subi v442 v444
  let v446 : BitVec 1 := Scalar.cmpi .ne v440 v445
  let v447 : BitVec 32 := Scalar.remsi v431 c2_i32_281
  let c0_i32_286 : BitVec 32 := 0#32
  let v448 : BitVec 1 := Scalar.cmpi .ne v447 c0_i32_286
  let v449 : BitVec 1 := Scalar.andi v446 v448
  let v435 : BitVec 32 := Scalar.divsi v431 c2_i32_281
  let c1_i32_287 : BitVec 32 := 1#32
  let v450 : BitVec 32 := Scalar.subi v435 c1_i32_287
  let v451 : BitVec 32 := Scalar.select v449 v450 v435
  let v454 : BitVec 32 := Scalar.addi v453 v451
  let c16384_i32_290 : BitVec 32 := 16384#32
  let v455 : BitVec 32 := Scalar.muli v454 c16384_i32_290
  let c2_i32_288 : BitVec 32 := 2#32
  let v452 : BitVec 32 := Scalar.remsi v431 c2_i32_288
  let c8192_i32_291 : BitVec 32 := 8192#32
  let v456 : BitVec 32 := Scalar.muli v452 c8192_i32_291
  let v457 : BitVec 32 := Scalar.addi v455 v456
  ![v457.toNat]
@[reducible] def k1_t13_loop : Scf.Loop 32 :=
  let c0_i32_235 : BitVec 32 := 0#32
  let c8_i32_236 : BitVec 32 := 8#32
  let v376 : BitVec 32 := Scalar.addi c0_i32_235 c8_i32_236
  let c1_i32_237 : BitVec 32 := 1#32
  ⟨c0_i32_235, v376, c1_i32_237⟩
@[reducible] def k1_t14_loop : Scf.Loop 32 :=
  let c0_i32_254 : BitVec 32 := 0#32
  let c64_i32_255 : BitVec 32 := 64#32
  let v402 : BitVec 32 := Scalar.addi c0_i32_254 c64_i32_255
  let c1_i32_256 : BitVec 32 := 1#32
  ⟨c0_i32_254, v402, c1_i32_256⟩
def k1_off19 (k1_t14 : Fin k1_t14_loop.trips) (c0_i32_284 : BitVec 32) : Fin 1 → Nat :=
  let c0_i32_282 : BitVec 32 := 0#32
  let c0_i32_254 : BitVec 32 := 0#32
  let c1_i32_256 : BitVec 32 := 1#32
  let arg16 : BitVec 32 := Scf.iv c0_i32_254 c1_i32_256 k1_t14
  let c1_i32_281 : BitVec 32 := 1#32
  let v435 : BitVec 32 := Scalar.muli arg16 c1_i32_281
  let v436 : BitVec 32 := Scalar.addi c0_i32_282 v435
  let c8_i32_283 : BitVec 32 := 8#32
  let v437 : BitVec 32 := Scalar.muli v436 c8_i32_283
  let v438 : BitVec 32 := Scalar.addi v437 c0_i32_284
  let c16_i32_285 : BitVec 32 := 16#32
  let v439 : BitVec 32 := Scalar.muli v438 c16_i32_285
  let v440 : Index := Scalar.indexCast v439
  ![v440.toNat]

def k1_chk65 (v493 : IVec S16 32) (v499 : IVec S16 32) : Prop :=
  (∀ a x, ((![v499, v493] : Fin 2 → IVec S16 32) a x).toNat < S10000x8.size a)
theorem k1_idx65_inb : ∀ (v493 : IVec S16 32) (v499 : IVec S16 32) (k1_hw65 : k1_chk65 v493 v499), ∀ a x, ((![v499, v493] : Fin 2 → IVec S16 32) a x).toNat < S10000x8.size a := fun v493 v499 k1_hw65 => k1_hw65

def k1_chk66 (v493 : IVec S16 32) (v505 : IVec S16 32) : Prop :=
  (∀ a x, ((![v505, v493] : Fin 2 → IVec S16 32) a x).toNat < S10000x8.size a)
theorem k1_idx66_inb : ∀ (v493 : IVec S16 32) (v505 : IVec S16 32) (k1_hw66 : k1_chk66 v493 v505), ∀ a x, ((![v505, v493] : Fin 2 → IVec S16 32) a x).toNat < S10000x8.size a := fun v493 v505 k1_hw66 => k1_hw66

def k1_chk67 (v493 : IVec S16 32) (v511 : IVec S16 32) : Prop :=
  (∀ a x, ((![v511, v493] : Fin 2 → IVec S16 32) a x).toNat < S10000x8.size a)
theorem k1_idx67_inb : ∀ (v493 : IVec S16 32) (v511 : IVec S16 32) (k1_hw67 : k1_chk67 v493 v511), ∀ a x, ((![v511, v493] : Fin 2 → IVec S16 32) a x).toNat < S10000x8.size a := fun v493 v511 k1_hw67 => k1_hw67

def k1_chk68 (v493 : IVec S16 32) (v517 : IVec S16 32) : Prop :=
  (∀ a x, ((![v517, v493] : Fin 2 → IVec S16 32) a x).toNat < S10000x8.size a)
theorem k1_idx68_inb : ∀ (v493 : IVec S16 32) (v517 : IVec S16 32) (k1_hw68 : k1_chk68 v493 v517), ∀ a x, ((![v517, v493] : Fin 2 → IVec S16 32) a x).toNat < S10000x8.size a := fun v493 v517 k1_hw68 => k1_hw68

def k1_chk69 (v493 : IVec S16 32) (v523 : IVec S16 32) : Prop :=
  (∀ a x, ((![v523, v493] : Fin 2 → IVec S16 32) a x).toNat < S10000x8.size a)
theorem k1_idx69_inb : ∀ (v493 : IVec S16 32) (v523 : IVec S16 32) (k1_hw69 : k1_chk69 v493 v523), ∀ a x, ((![v523, v493] : Fin 2 → IVec S16 32) a x).toNat < S10000x8.size a := fun v493 v523 k1_hw69 => k1_hw69

def k1_chk70 (v493 : IVec S16 32) (v529 : IVec S16 32) : Prop :=
  (∀ a x, ((![v529, v493] : Fin 2 → IVec S16 32) a x).toNat < S10000x8.size a)
theorem k1_idx70_inb : ∀ (v493 : IVec S16 32) (v529 : IVec S16 32) (k1_hw70 : k1_chk70 v493 v529), ∀ a x, ((![v529, v493] : Fin 2 → IVec S16 32) a x).toNat < S10000x8.size a := fun v493 v529 k1_hw70 => k1_hw70

def k1_chk71 (v493 : IVec S16 32) (v535 : IVec S16 32) : Prop :=
  (∀ a x, ((![v535, v493] : Fin 2 → IVec S16 32) a x).toNat < S10000x8.size a)
theorem k1_idx71_inb : ∀ (v493 : IVec S16 32) (v535 : IVec S16 32) (k1_hw71 : k1_chk71 v493 v535), ∀ a x, ((![v535, v493] : Fin 2 → IVec S16 32) a x).toNat < S10000x8.size a := fun v493 v535 k1_hw71 => k1_hw71

def k1_chk72 (v493 : IVec S16 32) (v541 : IVec S16 32) : Prop :=
  (∀ a x, ((![v541, v493] : Fin 2 → IVec S16 32) a x).toNat < S10000x8.size a)
theorem k1_idx72_inb : ∀ (v493 : IVec S16 32) (v541 : IVec S16 32) (k1_hw72 : k1_chk72 v493 v541), ∀ a x, ((![v541, v493] : Fin 2 → IVec S16 32) a x).toNat < S10000x8.size a := fun v493 v541 k1_hw72 => k1_hw72
def k1_cond9 (k1_t13 : Fin k1_t13_loop.trips) : BitVec 1 :=
  let c2_i32_241 : BitVec 32 := 2#32
  let c0_i32_240 : BitVec 32 := 0#32
  let c0_i32_235 : BitVec 32 := 0#32
  let c1_i32_237 : BitVec 32 := 1#32
  let arg15 : BitVec 32 := Scf.iv c0_i32_235 c1_i32_237 k1_t13
  let c1_i32_239 : BitVec 32 := 1#32
  let v377 : BitVec 32 := Scalar.muli arg15 c1_i32_239
  let v378 : BitVec 32 := Scalar.addi c0_i32_240 v377
  let v379 : BitVec 32 := Scalar.muli c2_i32_241 v378
  let c0_i32_242 : BitVec 32 := 0#32
  let v380 : BitVec 32 := Scalar.addi v379 c0_i32_242
  let c2_i32_258 : BitVec 32 := 2#32
  let v403 : BitVec 32 := Scalar.addi v380 c2_i32_258
  let c16_i32_259 : BitVec 32 := 16#32
  let v404 : BitVec 1 := Scalar.cmpi .slt v403 c16_i32_259
  let v405 : BitVec 32 := Scalar.extui v404
  let c0_i32_260 : BitVec 32 := 0#32
  let v406 : BitVec 1 := Scalar.cmpi .ne v405 c0_i32_260
  v406

def k1_off20 (i : grid1.Coords) (k1_t13 : Fin k1_t13_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_224 : BitVec 32 := 128#32
  let v355 : BitVec 32 := Scalar.addi v1 c128_i32_224
  let c16_i32_225 : BitVec 32 := 16#32
  let v356 : BitVec 32 := Scalar.remsi v355 c16_i32_225
  let c8_i32_289 : BitVec 32 := 8#32
  let v453 : BitVec 32 := Scalar.muli v356 c8_i32_289
  let c2_i32_241 : BitVec 32 := 2#32
  let c0_i32_240 : BitVec 32 := 0#32
  let c0_i32_235 : BitVec 32 := 0#32
  let c1_i32_237 : BitVec 32 := 1#32
  let arg15 : BitVec 32 := Scf.iv c0_i32_235 c1_i32_237 k1_t13
  let c1_i32_239 : BitVec 32 := 1#32
  let v377 : BitVec 32 := Scalar.muli arg15 c1_i32_239
  let v378 : BitVec 32 := Scalar.addi c0_i32_240 v377
  let v379 : BitVec 32 := Scalar.muli c2_i32_241 v378
  let c0_i32_242 : BitVec 32 := 0#32
  let v380 : BitVec 32 := Scalar.addi v379 c0_i32_242
  let c2_i32_258 : BitVec 32 := 2#32
  let v403 : BitVec 32 := Scalar.addi v380 c2_i32_258
  let c0_i32_282 : BitVec 32 := 0#32
  let v436 : BitVec 1 := Scalar.cmpi .sgt v403 c0_i32_282
  let v437 : BitVec 32 := Scalar.extui v436
  let c0_i32_283 : BitVec 32 := 0#32
  let v438 : BitVec 1 := Scalar.cmpi .slt v403 c0_i32_283
  let v439 : BitVec 32 := Scalar.extui v438
  let v440 : BitVec 32 := Scalar.subi v437 v439
  let c2_i32_281 : BitVec 32 := 2#32
  let c0_i32_284 : BitVec 32 := 0#32
  let v441 : BitVec 1 := Scalar.cmpi .sgt c2_i32_281 c0_i32_284
  let v442 : BitVec 32 := Scalar.extui v441
  let c0_i32_285 : BitVec 32 := 0#32
  let v443 : BitVec 1 := Scalar.cmpi .slt c2_i32_281 c0_i32_285
  let v444 : BitVec 32 := Scalar.extui v443
  let v445 : BitVec 32 := Scalar.subi v442 v444
  let v446 : BitVec 1 := Scalar.cmpi .ne v440 v445
  let v447 : BitVec 32 := Scalar.remsi v403 c2_i32_281
  let c0_i32_286 : BitVec 32 := 0#32
  let v448 : BitVec 1 := Scalar.cmpi .ne v447 c0_i32_286
  let v449 : BitVec 1 := Scalar.andi v446 v448
  let v435 : BitVec 32 := Scalar.divsi v403 c2_i32_281
  let c1_i32_287 : BitVec 32 := 1#32
  let v450 : BitVec 32 := Scalar.subi v435 c1_i32_287
  let v451 : BitVec 32 := Scalar.select v449 v450 v435
  let v454 : BitVec 32 := Scalar.addi v453 v451
  let c16384_i32_290 : BitVec 32 := 16384#32
  let v455 : BitVec 32 := Scalar.muli v454 c16384_i32_290
  let c2_i32_288 : BitVec 32 := 2#32
  let v452 : BitVec 32 := Scalar.remsi v403 c2_i32_288
  let c8192_i32_291 : BitVec 32 := 8192#32
  let v456 : BitVec 32 := Scalar.muli v452 c8192_i32_291
  let v457 : BitVec 32 := Scalar.addi v455 v456
  ![v457.toNat]
@[reducible] def k1_t15_loop : Scf.Loop 32 :=
  let c0_i32_274 : BitVec 32 := 0#32
  let c64_i32_275 : BitVec 32 := 64#32
  let v430 : BitVec 32 := Scalar.addi c0_i32_274 c64_i32_275
  let c1_i32_276 : BitVec 32 := 1#32
  ⟨c0_i32_274, v430, c1_i32_276⟩
def k1_off21 (k1_t15 : Fin k1_t15_loop.trips) (c0_i32_284 : BitVec 32) : Fin 1 → Nat :=
  let c0_i32_282 : BitVec 32 := 0#32
  let c0_i32_274 : BitVec 32 := 0#32
  let c1_i32_276 : BitVec 32 := 1#32
  let arg16 : BitVec 32 := Scf.iv c0_i32_274 c1_i32_276 k1_t15
  let c1_i32_281 : BitVec 32 := 1#32
  let v435 : BitVec 32 := Scalar.muli arg16 c1_i32_281
  let v436 : BitVec 32 := Scalar.addi c0_i32_282 v435
  let c8_i32_283 : BitVec 32 := 8#32
  let v437 : BitVec 32 := Scalar.muli v436 c8_i32_283
  let v438 : BitVec 32 := Scalar.addi v437 c0_i32_284
  let c16_i32_285 : BitVec 32 := 16#32
  let v439 : BitVec 32 := Scalar.muli v438 c16_i32_285
  let v440 : Index := Scalar.indexCast v439
  ![v440.toNat]

def k1_chk73 (v493 : IVec S16 32) (v499 : IVec S16 32) : Prop :=
  (∀ a x, ((![v499, v493] : Fin 2 → IVec S16 32) a x).toNat < S10000x8.size a)
theorem k1_idx73_inb : ∀ (v493 : IVec S16 32) (v499 : IVec S16 32) (k1_hw73 : k1_chk73 v493 v499), ∀ a x, ((![v499, v493] : Fin 2 → IVec S16 32) a x).toNat < S10000x8.size a := fun v493 v499 k1_hw73 => k1_hw73

def k1_chk74 (v493 : IVec S16 32) (v505 : IVec S16 32) : Prop :=
  (∀ a x, ((![v505, v493] : Fin 2 → IVec S16 32) a x).toNat < S10000x8.size a)
theorem k1_idx74_inb : ∀ (v493 : IVec S16 32) (v505 : IVec S16 32) (k1_hw74 : k1_chk74 v493 v505), ∀ a x, ((![v505, v493] : Fin 2 → IVec S16 32) a x).toNat < S10000x8.size a := fun v493 v505 k1_hw74 => k1_hw74

def k1_chk75 (v493 : IVec S16 32) (v511 : IVec S16 32) : Prop :=
  (∀ a x, ((![v511, v493] : Fin 2 → IVec S16 32) a x).toNat < S10000x8.size a)
theorem k1_idx75_inb : ∀ (v493 : IVec S16 32) (v511 : IVec S16 32) (k1_hw75 : k1_chk75 v493 v511), ∀ a x, ((![v511, v493] : Fin 2 → IVec S16 32) a x).toNat < S10000x8.size a := fun v493 v511 k1_hw75 => k1_hw75

def k1_chk76 (v493 : IVec S16 32) (v517 : IVec S16 32) : Prop :=
  (∀ a x, ((![v517, v493] : Fin 2 → IVec S16 32) a x).toNat < S10000x8.size a)
theorem k1_idx76_inb : ∀ (v493 : IVec S16 32) (v517 : IVec S16 32) (k1_hw76 : k1_chk76 v493 v517), ∀ a x, ((![v517, v493] : Fin 2 → IVec S16 32) a x).toNat < S10000x8.size a := fun v493 v517 k1_hw76 => k1_hw76

def k1_chk77 (v493 : IVec S16 32) (v523 : IVec S16 32) : Prop :=
  (∀ a x, ((![v523, v493] : Fin 2 → IVec S16 32) a x).toNat < S10000x8.size a)
theorem k1_idx77_inb : ∀ (v493 : IVec S16 32) (v523 : IVec S16 32) (k1_hw77 : k1_chk77 v493 v523), ∀ a x, ((![v523, v493] : Fin 2 → IVec S16 32) a x).toNat < S10000x8.size a := fun v493 v523 k1_hw77 => k1_hw77

def k1_chk78 (v493 : IVec S16 32) (v529 : IVec S16 32) : Prop :=
  (∀ a x, ((![v529, v493] : Fin 2 → IVec S16 32) a x).toNat < S10000x8.size a)
theorem k1_idx78_inb : ∀ (v493 : IVec S16 32) (v529 : IVec S16 32) (k1_hw78 : k1_chk78 v493 v529), ∀ a x, ((![v529, v493] : Fin 2 → IVec S16 32) a x).toNat < S10000x8.size a := fun v493 v529 k1_hw78 => k1_hw78

def k1_chk79 (v493 : IVec S16 32) (v535 : IVec S16 32) : Prop :=
  (∀ a x, ((![v535, v493] : Fin 2 → IVec S16 32) a x).toNat < S10000x8.size a)
theorem k1_idx79_inb : ∀ (v493 : IVec S16 32) (v535 : IVec S16 32) (k1_hw79 : k1_chk79 v493 v535), ∀ a x, ((![v535, v493] : Fin 2 → IVec S16 32) a x).toNat < S10000x8.size a := fun v493 v535 k1_hw79 => k1_hw79

def k1_chk80 (v493 : IVec S16 32) (v541 : IVec S16 32) : Prop :=
  (∀ a x, ((![v541, v493] : Fin 2 → IVec S16 32) a x).toNat < S10000x8.size a)
theorem k1_idx80_inb : ∀ (v493 : IVec S16 32) (v541 : IVec S16 32) (k1_hw80 : k1_chk80 v493 v541), ∀ a x, ((![v541, v493] : Fin 2 → IVec S16 32) a x).toNat < S10000x8.size a := fun v493 v541 k1_hw80 => k1_hw80
def k1_cond10 (k1_t13 : Fin k1_t13_loop.trips) : BitVec 1 :=
  let c2_i32_261 : BitVec 32 := 2#32
  let c0_i32_240 : BitVec 32 := 0#32
  let c0_i32_235 : BitVec 32 := 0#32
  let c1_i32_237 : BitVec 32 := 1#32
  let arg15 : BitVec 32 := Scf.iv c0_i32_235 c1_i32_237 k1_t13
  let c1_i32_239 : BitVec 32 := 1#32
  let v377 : BitVec 32 := Scalar.muli arg15 c1_i32_239
  let v378 : BitVec 32 := Scalar.addi c0_i32_240 v377
  let v407 : BitVec 32 := Scalar.muli c2_i32_261 v378
  let c1_i32_262 : BitVec 32 := 1#32
  let v408 : BitVec 32 := Scalar.addi v407 c1_i32_262
  let c2_i32_278 : BitVec 32 := 2#32
  let v431 : BitVec 32 := Scalar.addi v408 c2_i32_278
  let c16_i32_279 : BitVec 32 := 16#32
  let v432 : BitVec 1 := Scalar.cmpi .slt v431 c16_i32_279
  let v433 : BitVec 32 := Scalar.extui v432
  let c0_i32_280 : BitVec 32 := 0#32
  let v434 : BitVec 1 := Scalar.cmpi .ne v433 c0_i32_280
  v434

def k1_off22 (i : grid1.Coords) (k1_t13 : Fin k1_t13_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_224 : BitVec 32 := 128#32
  let v355 : BitVec 32 := Scalar.addi v1 c128_i32_224
  let c16_i32_225 : BitVec 32 := 16#32
  let v356 : BitVec 32 := Scalar.remsi v355 c16_i32_225
  let c8_i32_289 : BitVec 32 := 8#32
  let v453 : BitVec 32 := Scalar.muli v356 c8_i32_289
  let c2_i32_261 : BitVec 32 := 2#32
  let c0_i32_240 : BitVec 32 := 0#32
  let c0_i32_235 : BitVec 32 := 0#32
  let c1_i32_237 : BitVec 32 := 1#32
  let arg15 : BitVec 32 := Scf.iv c0_i32_235 c1_i32_237 k1_t13
  let c1_i32_239 : BitVec 32 := 1#32
  let v377 : BitVec 32 := Scalar.muli arg15 c1_i32_239
  let v378 : BitVec 32 := Scalar.addi c0_i32_240 v377
  let v407 : BitVec 32 := Scalar.muli c2_i32_261 v378
  let c1_i32_262 : BitVec 32 := 1#32
  let v408 : BitVec 32 := Scalar.addi v407 c1_i32_262
  let c2_i32_278 : BitVec 32 := 2#32
  let v431 : BitVec 32 := Scalar.addi v408 c2_i32_278
  let c0_i32_282 : BitVec 32 := 0#32
  let v436 : BitVec 1 := Scalar.cmpi .sgt v431 c0_i32_282
  let v437 : BitVec 32 := Scalar.extui v436
  let c0_i32_283 : BitVec 32 := 0#32
  let v438 : BitVec 1 := Scalar.cmpi .slt v431 c0_i32_283
  let v439 : BitVec 32 := Scalar.extui v438
  let v440 : BitVec 32 := Scalar.subi v437 v439
  let c2_i32_281 : BitVec 32 := 2#32
  let c0_i32_284 : BitVec 32 := 0#32
  let v441 : BitVec 1 := Scalar.cmpi .sgt c2_i32_281 c0_i32_284
  let v442 : BitVec 32 := Scalar.extui v441
  let c0_i32_285 : BitVec 32 := 0#32
  let v443 : BitVec 1 := Scalar.cmpi .slt c2_i32_281 c0_i32_285
  let v444 : BitVec 32 := Scalar.extui v443
  let v445 : BitVec 32 := Scalar.subi v442 v444
  let v446 : BitVec 1 := Scalar.cmpi .ne v440 v445
  let v447 : BitVec 32 := Scalar.remsi v431 c2_i32_281
  let c0_i32_286 : BitVec 32 := 0#32
  let v448 : BitVec 1 := Scalar.cmpi .ne v447 c0_i32_286
  let v449 : BitVec 1 := Scalar.andi v446 v448
  let v435 : BitVec 32 := Scalar.divsi v431 c2_i32_281
  let c1_i32_287 : BitVec 32 := 1#32
  let v450 : BitVec 32 := Scalar.subi v435 c1_i32_287
  let v451 : BitVec 32 := Scalar.select v449 v450 v435
  let v454 : BitVec 32 := Scalar.addi v453 v451
  let c16384_i32_290 : BitVec 32 := 16384#32
  let v455 : BitVec 32 := Scalar.muli v454 c16384_i32_290
  let c2_i32_288 : BitVec 32 := 2#32
  let v452 : BitVec 32 := Scalar.remsi v431 c2_i32_288
  let c8192_i32_291 : BitVec 32 := 8192#32
  let v456 : BitVec 32 := Scalar.muli v452 c8192_i32_291
  let v457 : BitVec 32 := Scalar.addi v455 v456
  ![v457.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S16384x128 : Shape := ⟨2, ![16384, 128]⟩
abbrev S128 : Shape := ⟨1, ![128]⟩
abbrev S1x128 : Shape := ⟨2, ![1, 128]⟩
abbrev S_ : Shape := ⟨0, ![]⟩
abbrev S16384x128x1 : Shape := ⟨3, ![16384, 128, 1]⟩
abbrev S16384x128x2 : Shape := ⟨3, ![16384, 128, 2]⟩

abbrev nBuf : Space → Nat
  | .hbm => 24
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S16384x128, .i32⟩
  | .hbm, ⟨2, _⟩ => ⟨S16384x128, .f32⟩
  | .hbm, ⟨3, _⟩ => ⟨S128, .i32⟩
  | .hbm, ⟨4, _⟩ => ⟨S1x128, .i32⟩
  | .hbm, ⟨5, _⟩ => ⟨S16384x128, .i32⟩
  | .hbm, ⟨6, _⟩ => ⟨S_, .i32⟩
  | .hbm, ⟨7, _⟩ => ⟨S16384x128, .i32⟩
  | .hbm, ⟨8, _⟩ => ⟨S16384x128, .i1⟩
  | .hbm, ⟨9, _⟩ => ⟨S_, .i32⟩
  | .hbm, ⟨10, _⟩ => ⟨S16384x128, .i32⟩
  | .hbm, ⟨11, _⟩ => ⟨S16384x128, .i32⟩
  | .hbm, ⟨12, _⟩ => ⟨S16384x128, .i32⟩
  | .hbm, ⟨13, _⟩ => ⟨S_, .i32⟩
  | .hbm, ⟨14, _⟩ => ⟨S16384x128, .i32⟩
  | .hbm, ⟨15, _⟩ => ⟨S16384x128, .i1⟩
  | .hbm, ⟨16, _⟩ => ⟨S_, .i32⟩
  | .hbm, ⟨17, _⟩ => ⟨S16384x128, .i32⟩
  | .hbm, ⟨18, _⟩ => ⟨S16384x128, .i32⟩
  | .hbm, ⟨19, _⟩ => ⟨S16384x128, .i32⟩
  | .hbm, ⟨20, _⟩ => ⟨S16384x128x1, .i32⟩
  | .hbm, ⟨21, _⟩ => ⟨S16384x128x1, .i32⟩
  | .hbm, ⟨22, _⟩ => ⟨S16384x128x2, .i32⟩
  | .hbm, ⟨23, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Text.lean ====
/-
  The SparseCore kernel's text, written once. The kernel unrolls five tiles per subcore and two phases per pair of
  chunks in Python, so its print holds ten copies of one inner loop. Here is that loop as one definition over the
  buffers, the tile and the phase, the tile as one definition over its number, and the theorem that the printed
  kernel is the five tiles in a row. Everything is by definitional unfolding.
-/
module

public import proofs.«01_k».proof.Proof.Gen.KernelIdeal.Skeleton

@[expose] public section

noncomputable section

namespace Cert.Proof.Text

open Cert.KernelIdeal Cert.KernelIdeal.Gen
open Idealize.ShloMosaic Idealize.SL.Sem

variable {F : FTy → Type} [FloatOps F]

/-! ## The scalars -/

/-- The tile's number: the subcore's (twice its own number and its core's) plus `l`, which is 32 times the round. -/
def tidW (i : grid1.Coords) (l : BitVec 32) : BitVec 32 :=
  Scalar.addi (Scalar.addi (Scalar.muli (BitVec.ofNat 32 (i 1).val) 2#32) (BitVec.ofNat 32 (i 0).val)) l

/-- The floor division as the kernel computes it. -/
def floorW (q d : BitVec 32) : BitVec 32 :=
  Scalar.select
    (Scalar.andi
      (Scalar.cmpi .ne
        (Scalar.subi (Scalar.extui (Scalar.cmpi .sgt q 0#32)) (Scalar.extui (Scalar.cmpi .slt q 0#32)))
        (Scalar.subi (Scalar.extui (Scalar.cmpi .sgt d 0#32)) (Scalar.extui (Scalar.cmpi .slt d 0#32))))
      (Scalar.cmpi .ne (Scalar.remsi q d) 0#32))
    (Scalar.subi (Scalar.divsi q d) 1#32) (Scalar.divsi q d)

/-- The first row of the tile's band. -/
def bandW (i : grid1.Coords) (l : BitVec 32) : BitVec 32 := Scalar.muli (floorW (tidW i l) 16#32) 10000#32

/-- The chunk's number within its tile: trip `t` of the loop over pairs, phase `ph`. -/
def chunkW (t : Fin k1_t1_loop.trips) (ph : BitVec 32) : BitVec 32 :=
  Scalar.addi (Scalar.muli 2#32 (Scalar.addi 0#32 (Scalar.muli (Scf.iv 0#32 1#32 t) 1#32))) ph

/-- The condition under which the phase prefetches the chunk after next. -/
def moreW (t : Fin k1_t1_loop.trips) (ph : BitVec 32) : BitVec 1 :=
  Scalar.cmpi .ne (Scalar.extui (Scalar.cmpi .slt (Scalar.addi (chunkW t ph) 2#32) 16#32)) 0#32

/-- Where chunk `q` of tile number `tid` begins in the flat transposed arrays. -/
def chunkOff (tid q : BitVec 32) : Fin 1 → Nat :=
  ![(Scalar.addi (Scalar.muli (Scalar.addi (Scalar.muli (Scalar.remsi tid 16#32) 8#32) (floorW q 2#32)) 16384#32)
      (Scalar.muli (Scalar.remsi q 2#32) 8192#32)).toNat]

/-- Where the prefetched chunk begins. -/
def nextOff (i : grid1.Coords) (l : BitVec 32) (t : Fin k1_t1_loop.trips) (ph : BitVec 32) : Fin 1 → Nat :=
  chunkOff (tidW i l) (Scalar.addi (chunkW t ph) 2#32)

/-! ## One vector of sixteen updates -/

/-- The rows within the band, before the mask is applied. -/
def relW (b0 : BitVec 32) (v : IVec S16 32) : IVec S16 32 := subi v (broadcast S16 b0)
/-- Which lanes fall in the band. -/
def inbW (b0 : BitVec 32) (v : IVec S16 32) : IVec S16 1 := cmpi .ult (relW b0 v) (broadcast S16 10000#32)
/-- The rows stored at: a lane outside the band names row zero. -/
def rowW (b0 : BitVec 32) (v : IVec S16 32) : IVec S16 32 := select (inbW b0 v) (relW b0 v) (broadcast S16 0#32)

variable (i : grid1.Coords)

local notation "𝔼" => TpuEff nD τ sig (Elt F) Λ₀ (Proc.scVector (Fin.castLE hcore1 (i 0)) (Fin.castLE hsub1 (i 1)))

/-- Store one vector of values at its rows of the band, in one column. -/
def vput (tv : Memref sig .scVector .vmem S10000x8 .f32) (b0 : BitVec 32) (c : IVec S16 32) (v : IVec S16 32) (x : Vec F S16 .f32) :
    Prog 𝔼 PUnit := do
  have hw : k1_chk1 c (rowW b0 v) := (← Prog.lift (TpuEff.assume (k1_chk1 c (rowW b0 v)) (k1_chk1.dec c (rowW b0 v)))).down
  SparseCore.vectorStoreIdx tv ![rowW b0 v, c] x (inbW b0 v) false (k1_idx1_inb c (rowW b0 v) hw) (View.stores_vmem_bits_univ h_S10000x8 rfl)

/-- Load the sixteen row numbers at place `r` of trip `t`. -/
def vrow (rb : Memref sig .scVector .vmem S8192 .i32) (t : Fin k1_t2_loop.trips) (r : Fin 8) : Prog 𝔼 (Vec F S16 .i32) :=
  Prog.lift (.load rb (Rect.unit (s := S8192) (k1_off3 t (BitVec.ofNat 32 r.val)) S16.size (k1_off3_inb t r)).toLoadRect (View.loadsAt_vmem h_S16))
/-- Load the sixteen values at place `r` of trip `t`. -/
def vval (sr : Memref sig .scVector .vmem S8192 .f32) (t : Fin k1_t2_loop.trips) (r : Fin 8) : Prog 𝔼 (Vec F S16 .f32) :=
  Prog.lift (.load sr (Rect.unit (s := S8192) (k1_off3 t (BitVec.ofNat 32 r.val)) S16.size (k1_off3_inb t r)).toLoadRect (View.loadsAt_vmem h_S16))

/-- One trip of the inner loop: eight vectors read, then the eight stored in order. -/
def vtrip (tv : Memref sig .scVector .vmem S10000x8 .f32) (rb : Memref sig .scVector .vmem S8192 .i32) (sr : Memref sig .scVector .vmem S8192 .f32)
    (b0 col : BitVec 32) (t : Fin k1_t2_loop.trips) : Prog 𝔼 PUnit := do
  let a0 ← vrow i rb t 0
  let x0 ← vval i sr t 0
  let a1 ← vrow i rb t 1
  let x1 ← vval i sr t 1
  let a2 ← vrow i rb t 2
  let x2 ← vval i sr t 2
  let a3 ← vrow i rb t 3
  let x3 ← vval i sr t 3
  let a4 ← vrow i rb t 4
  let x4 ← vval i sr t 4
  let a5 ← vrow i rb t 5
  let x5 ← vval i sr t 5
  let a6 ← vrow i rb t 6
  let x6 ← vval i sr t 6
  let a7 ← vrow i rb t 7
  let x7 ← vval i sr t 7
  vput i tv b0 (broadcast S16 col) a0 x0
  vput i tv b0 (broadcast S16 col) a1 x1
  vput i tv b0 (broadcast S16 col) a2 x2
  vput i tv b0 (broadcast S16 col) a3 x3
  vput i tv b0 (broadcast S16 col) a4 x4
  vput i tv b0 (broadcast S16 col) a5 x5
  vput i tv b0 (broadcast S16 col) a6 x6
  vput i tv b0 (broadcast S16 col) a7 x7
  pure ⟨⟩

/-- The inner loop over one chunk. -/
def vloop (tv : Memref sig .scVector .vmem S10000x8 .f32) (rb : Memref sig .scVector .vmem S8192 .i32) (sr : Memref sig .scVector .vmem S8192 .f32)
    (b0 col : BitVec 32) : Prog 𝔼 PUnit :=
  Scf.Loop.for k1_t2_loop k1_t2_ok ⟨⟩ (fun t _ => vtrip i tv rb sr b0 col t)

/-! ## The tile's literal, the offsets in closed form -/

/-- The literal of round `r`: 32 tiles on. -/
abbrev litW (r : Fin 5) : BitVec 32 := BitVec.ofNat 32 (32 * r.val)
/-- The literal of phase `p`. -/
abbrev phW (p : Fin 2) : BitVec 32 := BitVec.ofNat 32 p.val

theorem nextOff_eq : ∀ (i : grid1.Coords) (r : Fin 5) (t : Fin k1_t1_loop.trips) (p : Fin 2),
    nextOff i (litW r) t (phW p) = ![131072 * ((2 * (i 1).val + (i 0).val + 32 * r.val) % 16) + 8192 * (2 * t.val + p.val + 2)] := by
  decide +kernel

theorem nextOff_inb : ∀ (i : grid1.Coords) (r : Fin 5) (t : Fin k1_t1_loop.trips) (p : Fin 2), moreW t (phW p) = 1#1 →
    ∀ a, nextOff i (litW r) t (phW p) a + S8192.size a ≤ S2097152.size a := by
  decide +kernel

theorem moreW_iff : ∀ (t : Fin k1_t1_loop.trips) (p : Fin 2), moreW t (phW p) = 1#1 ↔ t.val < 7 := by decide +kernel

theorem colW_eq : ∀ (t : Fin k1_t1_loop.trips) (p : Fin 2), floorW (chunkW t (phW p)) 2#32 = BitVec.ofNat 32 t.val := by decide +kernel

theorem bandW_eq : ∀ (i : grid1.Coords) (r : Fin 5),
    bandW i (litW r) = BitVec.ofNat 32 (10000 * ((2 * (i 1).val + (i 0).val + 32 * r.val) / 16)) := by decide +kernel

theorem off2_eq : ∀ (i : grid1.Coords) (r : Fin 5),
    k1_off2 i (litW r) = ![10000 * ((2 * (i 1).val + (i 0).val + 32 * r.val) / 16), 8 * ((2 * (i 1).val + (i 0).val + 32 * r.val) % 16)] := by
  decide +kernel

section Whole

variable (arg2 : Memref sig .scVector .hbm S100000x128 .f32) (harg2 : arg2.IsWhole) (arg3 : Memref sig .scVector .hbm S2097152 .i32) (harg3 : arg3.IsWhole)
  (arg4 : Memref sig .scVector .hbm S2097152 .f32) (harg4 : arg4.IsWhole) (arg5 : Memref sig .scVector .hbm S100000x128 .f32) (harg5 : arg5.IsWhole)
  (arg6 : Memref sig .scVector .vmem S10000x8 .f32) (harg6 : arg6.IsWhole) (arg7 : Memref sig .scVector .vmem S8192 .i32) (harg7 : arg7.IsWhole)
  (arg8 : Memref sig .scVector .vmem S8192 .i32) (harg8 : arg8.IsWhole) (arg9 : Memref sig .scVector .vmem S8192 .f32) (harg9 : arg9.IsWhole)
  (arg10 : Memref sig .scVector .vmem S8192 .f32) (harg10 : arg10.IsWhole) (arg11 arg12 arg13 arg14 : DmaSems sig S_)

/-- The two copies of a chunk — its row numbers and its values — begun, from offset `off`. -/
def fetch (rb : Memref sig .scVector .vmem S8192 .i32) (hrb : rb.IsWhole) (sr : Memref sig .scVector .vmem S8192 .f32) (hsr : sr.IsWhole)
    (sa sb : DmaSems sig S_) (off : Fin 1 → Nat) (h : ∀ a, off a + S8192.size a ≤ S2097152.size a) : Prog 𝔼 PUnit := do
  Prog.lift (.enqueueDma (arg3.slice (Rect.unit (s := S2097152) off S8192.size h) (fun _ => rfl)) (.here rb) (.dma sa.sem) (View.wordExact_bits rfl) hrb.wordExact ⟨Or.inl rfl, trivial⟩)
  Prog.lift (.enqueueDma (arg4.slice (Rect.unit (s := S2097152) off S8192.size h) (fun _ => rfl)) (.here sr) (.dma sb.sem) (View.wordExact_bits rfl) hsr.wordExact ⟨Or.inl rfl, trivial⟩)

/-- The two copies of a chunk awaited. -/
def await (rb : Memref sig .scVector .vmem S8192 .i32) (hrb : rb.IsWhole) (sr : Memref sig .scVector .vmem S8192 .f32) (hsr : sr.IsWhole)
    (sa sb : DmaSems sig S_) : Prog 𝔼 PUnit := do
  Prog.lift (.waitDma2 sa.sem (arg3.slice (Rect.unit (s := S2097152) ![0] S8192.size inb_S2097152_S8192_0) (fun _ => rfl)) rb (View.wordExact_bits rfl) hrb.wordExact)
  Prog.lift (.waitDma2 sb.sem (arg4.slice (Rect.unit (s := S2097152) ![0] S8192.size inb_S2097152_S8192_0) (fun _ => rfl)) sr (View.wordExact_bits rfl) hsr.wordExact)

/-- One phase: the chunk awaited, its updates stored (`q` is the chunk's number), the chunk after next begun; then `w`. -/
def phase {α : Type} (w : α) (rb : Memref sig .scVector .vmem S8192 .i32) (hrb : rb.IsWhole) (sr : Memref sig .scVector .vmem S8192 .f32) (hsr : sr.IsWhole)
    (sa sb : DmaSems sig S_) (r : Fin 5) (t : Fin k1_t1_loop.trips) (p : Fin 2) (q : BitVec 32) : Prog 𝔼 α := do
  await i arg3 arg4 rb hrb sr hsr sa sb
  vloop i arg6 rb sr (bandW i (litW r)) (floorW q 2#32)
  if h : moreW t (phW p) = 1#1 then do
    fetch i arg3 arg4 rb hrb sr hsr sa sb (nextOff i (litW r) t (phW p)) (nextOff_inb i r t p h)
    pure ⟨⟩
  else do
    pure ⟨⟩
  pure w

/-- What the first phase hands the second: twice the trip, and one, whose sum is the second chunk's number. -/
def pairMid (t : Fin k1_t1_loop.trips) : Σ' (_ : BitVec 32), BitVec 32 :=
  ⟨Scalar.muli 2#32 (Scalar.addi 0#32 (Scalar.muli (Scf.iv 0#32 1#32 t) 1#32)), 1#32⟩

/-- A pair of phases, one per buffer. -/
def pair (r : Fin 5) (t : Fin k1_t1_loop.trips) : Prog 𝔼 PUnit := do
  let ⟨x, y⟩ ← phase i arg3 arg4 arg6 (pairMid t) arg7 harg7 arg9 harg9 arg11 arg13 r t 0 (chunkW t 0#32)
  phase i arg3 arg4 arg6 PUnit.unit arg8 harg8 arg10 harg10 arg12 arg14 r t 1 (Scalar.addi x y)

/-- The first two chunks of a tile begun. -/
def prime (r : Fin 5) : Prog 𝔼 PUnit := do
  fetch i arg3 arg4 arg7 harg7 arg9 harg9 arg11 arg13 (k1_off1 i (litW r) (phW 0)) (k1_off1_inb i r 0)
  fetch i arg3 arg4 arg8 harg8 arg10 harg10 arg12 arg14 (k1_off1 i (litW r) (phW 1)) (k1_off1_inb i r 1)

/-- The tile's block of `x` brought in. -/
def tileIn (s : DmaSems sig S_) (r : Fin 5) : Prog 𝔼 PUnit := do
  Prog.lift (.enqueueDma (arg2.slice (Rect.unit (s := S100000x128) (k1_off2 i (litW r)) S10000x8.size (k1_off2_inb i r)) (fun _ => rfl)) (.here arg6) (.dma s.sem) (View.wordExact_bits rfl) harg6.wordExact ⟨Or.inl rfl, trivial⟩)
  Prog.lift (.waitDma2 s.sem (arg2.slice (Rect.unit (s := S100000x128) (k1_off2 i (litW r)) S10000x8.size (k1_off2_inb i r)) (fun _ => rfl)) arg6 (View.wordExact_bits rfl) harg6.wordExact)

/-- The tile's block of the result written out. -/
def tileOut (s : DmaSems sig S_) (r : Fin 5) : Prog 𝔼 PUnit := do
  Prog.lift (.enqueueDma arg6 (.here (arg5.slice (Rect.unit (s := S100000x128) (k1_off2 i (litW r)) S10000x8.size (k1_off2_inb i r)) (fun _ => rfl))) (.dma s.sem) harg6.wordExact (View.wordExact_bits rfl) ⟨Or.inl rfl, trivial⟩)
  Prog.lift (.waitDma2 s.sem arg6 (arg5.slice (Rect.unit (s := S100000x128) (k1_off2 i (litW r)) S10000x8.size (k1_off2_inb i r)) (fun _ => rfl)) harg6.wordExact (View.wordExact_bits rfl))

/-- The tile up to the end of its updates: its block in, the eight pairs of chunks. -/
def work (s : DmaSems sig S_) (r : Fin 5) : Prog 𝔼 PUnit := do
  tileIn i arg2 arg6 harg6 s r
  Scf.Loop.for k1_t1_loop k1_t1_ok ⟨⟩ (fun t _ => pair i arg3 arg4 arg6 arg7 harg7 arg8 harg8 arg9 harg9 arg10 harg10 arg11 arg12 arg13 arg14 r t)

/-- A tile with another after it. -/
def tileMore (s s' : DmaSems sig S_) (r r' : Fin 5) : Prog 𝔼 PUnit := do
  work i arg2 arg3 arg4 arg6 harg6 arg7 harg7 arg8 harg8 arg9 harg9 arg10 harg10 arg11 arg12 arg13 arg14 s r
  prime i arg3 arg4 arg7 harg7 arg8 harg8 arg9 harg9 arg10 harg10 arg11 arg12 arg13 arg14 r'
  tileOut i arg5 arg6 harg6 s' r

/-- The last tile. -/
def tileLast (s s' : DmaSems sig S_) (r : Fin 5) : Prog 𝔼 PUnit := do
  work i arg2 arg3 arg4 arg6 harg6 arg7 harg7 arg8 harg8 arg9 harg9 arg10 harg10 arg11 arg12 arg13 arg14 s r
  tileOut i arg5 arg6 harg6 s' r

/-- The kernel: the first tile's chunks begun, then the five tiles. -/
def kern (s0 s1 s2 s3 s4 s5 s6 s7 s8 s9 : DmaSems sig S_) : Prog 𝔼 PUnit := do
  prime i arg3 arg4 arg7 harg7 arg8 harg8 arg9 harg9 arg10 harg10 arg11 arg12 arg13 arg14 0
  tileMore i arg2 arg3 arg4 arg5 arg6 harg6 arg7 harg7 arg8 harg8 arg9 harg9 arg10 harg10 arg11 arg12 arg13 arg14 s0 s1 0 1
  tileMore i arg2 arg3 arg4 arg5 arg6 harg6 arg7 harg7 arg8 harg8 arg9 harg9 arg10 harg10 arg11 arg12 arg13 arg14 s2 s3 1 2
  tileMore i arg2 arg3 arg4 arg5 arg6 harg6 arg7 harg7 arg8 harg8 arg9 harg9 arg10 harg10 arg11 arg12 arg13 arg14 s4 s5 2 3
  tileMore i arg2 arg3 arg4 arg5 arg6 harg6 arg7 harg7 arg8 harg8 arg9 harg9 arg10 harg10 arg11 arg12 arg13 arg14 s6 s7 3 4
  tileLast i arg2 arg3 arg4 arg5 arg6 harg6 arg7 harg7 arg8 harg8 arg9 harg9 arg10 harg10 arg11 arg12 arg13 arg14 s8 s9 4

set_option maxRecDepth 65536 in
/-- The printed kernel is that text. -/
theorem kern_eq (s0 s1 s2 s3 s4 s5 s6 s7 s8 s9 : DmaSems sig S_) :
    cc1__sc (F := F) i arg2 harg2 arg3 harg3 arg4 harg4 arg5 harg5 arg6 harg6 arg7 harg7 arg8 harg8 arg9 harg9 arg10 harg10 arg11 arg12 arg13 arg14
      s0 s1 s2 s3 s4 s5 s6 s7 s8 s9
      = kern i arg2 arg3 arg4 arg5 arg6 harg6 arg7 harg7 arg8 harg8 arg9 harg9 arg10 harg10 arg11 arg12 arg13 arg14 s0 s1 s2 s3 s4 s5 s6 s7 s8 s9 := by
  simp only [cc1__sc_eq_skeleton, cc1__sc_skel, k1_part26_eq_skeleton, k1_part26_skel, k1_part27_eq_skeleton, k1_part27_skel, k1_part28_eq_skeleton, k1_part28_skel, k1_part29_eq_skeleton, k1_part29_skel, k1_part30_eq_skeleton, k1_part30_skel, k1_part31_eq_skeleton, k1_part31_skel, k1_part32_eq_skeleton, k1_part32_skel, k1_part33_eq_skeleton, k1_part33_skel, k1_part34_eq_skeleton, k1_part34_skel, k1_part35_eq_skeleton, k1_part35_skel, k1_part36_eq_skeleton, k1_part36_skel, k1_part37_eq_skeleton, k1_part37_skel,
    kern, tileMore, tileLast, work, tileIn, tileOut, prime, fetch, bind_assoc, pure_bind]
  rfl

end Whole

end Cert.Proof.Text

end
-- ==== Proof.Tile.lean ====
/-
  What a tile of the result holds, position by position. A tile is a band of 10000 rows and a group of 8 columns; its
  updates are the group's stretch of the flat transposed arrays, 131072 positions, 16384 to a column. `tileV n` is the
  tile after the first `n` of them, each overwriting the cell it names; sixteen of them at a time are one masked
  scatter of the kernel (`storeIdx_tileV`).
-/
module

public import proofs.«01_k».proof.Proof.Text

@[expose] public section

noncomputable section

namespace Cert.Proof.Tile

open Cert.KernelIdeal Cert.KernelIdeal.Gen
open Idealize.ShloMosaic Idealize.SL.Sem
open Cert.Proof.Text

variable {F : FTy → Type}

/-- Position `k` of a flat array. -/
def flat (k : ℕ) : S2097152.Idx := fun | ⟨0, _⟩ => ⟨k % 2097152, Nat.mod_lt _ (by decide)⟩

/-- The cell at row `a`, column `b`. -/
def cell (a b : ℕ) : S100000x128.Idx := fun | ⟨0, _⟩ => ⟨a % 100000, Nat.mod_lt _ (by decide)⟩ | ⟨1, _⟩ => ⟨b % 128, Nat.mod_lt _ (by decide)⟩

/-- Tile (band `b`, group `g`) after its first `n` updates, over the old rows `X`, the row numbers `R` and the values `U`. -/
def tileV (R : S2097152.Idx → BitVec 32) (U : S2097152.Idx → Elt F .f32) (X : S100000x128.Idx → Elt F .f32) (b g : ℕ) : ℕ → S10000x8.Idx → Elt F .f32
  | 0 => fun h => X (cell (10000 * b + (h 0).val) (8 * g + (h 1).val))
  | n + 1 => fun h =>
    if (R (flat (131072 * g + n)) - BitVec.ofNat 32 (10000 * b)).toNat = (h 0).val ∧ n / 16384 = (h 1).val then U (flat (131072 * g + n))
    else tileV R U X b g n h

theorem foldl_finRange {α : Type} : ∀ (m : ℕ) (f : α → Fin m → α) (a : α) (G : ℕ → α), G 0 = a →
    (∀ k : Fin m, f (G k.val) k = G (k.val + 1)) → (List.finRange m).foldl f a = G m
  | 0, _, _, _, h0, _ => by simpa using h0.symm
  | m + 1, f, a, G, h0, hs => by
    rw [List.finRange_succ_last, List.foldl_append, List.foldl_map,
      foldl_finRange m (fun x k => f x k.castSucc) a G h0 (fun k => hs k.castSucc)]
    exact hs (Fin.last m)

theorem inbW_iff (b0 : BitVec 32) (v : IVec S16 32) (x : S16.Idx) : inbW b0 v x = 1#1 ↔ (v x - b0).toNat < 10000 := by
  show BitVec.ofBool ((v x - b0).ult 10000#32) = 1#1 ↔ _
  generalize v x - b0 = z
  rw [BitVec.ult, show (10000#32).toNat = 10000 from rfl]
  by_cases h : z.toNat < 10000 <;> simp [h]

/-- A lane within the band stores at its own row. -/
theorem rowW_of_inb (b0 : BitVec 32) (v : IVec S16 32) (x : S16.Idx) (h : inbW b0 v x = 1#1) : rowW b0 v x = v x - b0 := by
  show Scalar.select (inbW b0 v x) (v x - b0) 0#32 = _
  rw [h]; rfl

/-- Every lane, masked off or not, names a row of the tile. -/
theorem rowW_lt (b0 : BitVec 32) (v : IVec S16 32) (x : S16.Idx) : (rowW b0 v x).toNat < 10000 := by
  by_cases h : inbW b0 v x = 1#1
  · rw [rowW_of_inb b0 v x h]; exact (inbW_iff b0 v x).mp h
  · have : rowW b0 v x = 0#32 := by
      show Scalar.select (inbW b0 v x) (v x - b0) 0#32 = _
      exact if_neg h
    rw [this]; decide

theorem chk_ok (b0 : BitVec 32) (v c : IVec S16 32) (hc : ∀ x, (c x).toNat < 8) : k1_chk1 c (rowW b0 v) := by
  intro a x
  match a with
  | ⟨0, _⟩ => exact rowW_lt b0 v x
  | ⟨1, _⟩ => exact hc x

/-- Sixteen updates are one masked scatter. -/
theorem storeIdx_tileV [FloatOps F] (R : S2097152.Idx → BitVec 32) (U : S2097152.Idx → Elt F .f32) (X : S100000x128.Idx → Elt F .f32) (b g n : ℕ)
    (b0 : BitVec 32) (hb : b0 = BitVec.ofNat 32 (10000 * b)) (c : IVec S16 32) (j : ℕ) (hn : n = 16 * j) (hc : ∀ x, (c x).toNat = n / 16384)
    (v : IVec S16 32) (x : S16.Idx → Elt F .f32) (hv : ∀ k, v k = R (flat (131072 * g + (n + (k 0).val))))
    (hx : ∀ k, x k = U (flat (131072 * g + (n + (k 0).val))))
    (h : ∀ a y, ((![rowW b0 v, c] : Fin 2 → IVec S16 32) a y).toNat < S10000x8.size a) :
    storeIdx (F := F) (e := .f32) (s := S10000x8) (tileV R U X b g n) ![rowW b0 v, c] x (inbW b0 v) false h = tileV R U X b g (n + 16) := by
  unfold storeIdx
  refine foldl_finRange _ _ _ (fun k => tileV R U X b g (n + k)) rfl ?_
  intro k
  have hkn : (n + k.val) / 16384 = n / 16384 := by
    have := k.isLt; change k.val < 16 at this; omega
  have hk0 : ((Shape.ofLane (d := ![16]) k) 0).val = k.val := rfl
  set y : S16.Idx := Shape.ofLane (d := ![16]) k with hy
  have hvy : v y = R (flat (131072 * g + (n + k.val))) := by rw [hv y, hk0]
  have hxy : x y = U (flat (131072 * g + (n + k.val))) := by rw [hx y, hk0]
  show _ = tileV R U X b g (n + k.val + 1)
  funext z
  simp only [tileV, hkn, ← hvy, ← hxy, ← hb]
  by_cases hm : inbW b0 v y = 1
  · rw [if_pos hm]
    have hr : ∀ a : Fin 2, ((z a).val = (idxAt (s := S10000x8) ![rowW b0 v, c] h y a).val) ↔
        (z a).val = ((![rowW b0 v, c] : Fin 2 → IVec S16 32) a y).toNat := fun a => Iff.rfl
    have : (∀ a : Fin 2, (z a).val = (idxAt (s := S10000x8) ![rowW b0 v, c] h y a).val) ↔
        ((v y - b0).toNat = (z 0).val ∧ n / 16384 = (z 1).val) := by
      rw [Fin.forall_fin_two, hr, hr]
      show (z 0).val = (rowW b0 v y).toNat ∧ (z 1).val = (c y).toNat ↔ _
      rw [rowW_of_inb b0 v y hm, hc y]
      exact ⟨fun ⟨a, b⟩ => ⟨a.symm, b.symm⟩, fun ⟨a, b⟩ => ⟨a.symm, b.symm⟩⟩
    by_cases hz : (v y - b0).toNat = (z 0).val ∧ n / 16384 = (z 1).val
    · rw [if_pos hz]; exact if_pos (this.mpr hz)
    · rw [if_neg hz]; exact if_neg fun e => hz (this.mp e)
  · rw [if_neg hm, if_neg]
    rintro ⟨h1, -⟩
    exact hm ((inbW_iff b0 v y).mpr (h1 ▸ (z 0).isLt))

end Cert.Proof.Tile

end
-- ==== Proof.Run.lean ====
/-
  The run of one tile of the SparseCore, by lemmas over the kernel's text: a buffer that reads as some array (`holds`),
  a chunk on its way (`coming`), one vector of sixteen updates, one trip, one chunk, one pair of chunks, one tile.
-/
module

public import proofs.«01_k».proof.Proof.Tile
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Cert.Proof.Text Cert.Proof.Tile

variable {F : FTy → Type} [FloatOps F]

abbrev UH : Type := URounds (GSem nD τ sig) ℕ
abbrev UU : Type := UH × (UR sig nD τ × Counters)

local notation "𝕄" => MT nD τ sig (HIx 1) (Elt F) ℕ UU ℕ

abbrev 𝒱₀ : Variants := Variants.none

variable (d : Dev nD) (i : grid1.Coords)

/-- The subcore's thread. -/
abbrev thr : Thread nD τ := V d (Fin.castLE hcore1 (i 0)) (Fin.castLE hsub1 (i 1))

local notation "𝔼" => TpuEff nD τ sig (Elt F) Λ₀ (Proc.scVector (Fin.castLE hcore1 (i 0)) (Fin.castLE hsub1 (i 1)))

/-- The subcore holds share `q` of a memref's elements, which read as `w`; -/
def reads {sp : Space} {s : Shape} {e : EltTy} (q : PosShare TreeShare) (m : Memref sig .scVector sp s e) (w : s.Idx → Elt F e) : sProp 𝕄 :=
  iprop(∃ f, ⌜m.view.read (Elt F) f = w⌝ ∗ (m.view.loc (thr d i) ↦[m.view.set]{q} f))

/-- holds them outright, -/
abbrev holds {sp : Space} {s : Shape} {e : EltTy} (m : Memref sig .scVector sp s e) (w : s.Idx → Elt F e) : sProp 𝕄 := reads d i fullShare m w

/-- whatever they read as. -/
def holdsAny {sp : Space} {s : Shape} {e : EltTy} (m : Memref sig .scVector sp s e) : sProp 𝕄 := iprop(∃ w, holds (F := F) d i m w)

theorem bigSep_fin_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

section Steps

/-- A load of sixteen elements of a buffer that reads as `w`. -/
theorem wp_load16 {α : Type} {Q : α → sProp 𝕄} {e : EltTy} (m : Memref sig .scVector .vmem S8192 e) (w : S8192.Idx → Elt F e) (r : Rect S8192)
    (hl : m.view.LoadsAt r.toLoadRect) (k : (r.shape.Idx → Elt F e) → Prog 𝔼 α) :
    holds d i m w ⊢ iprop((holds d i m w -∗ wp frame (wpE defs₀ 𝒱₀ (thr d i) none) Set.univ (k fun x => w (r.emb x)) Q)
      -∗ wp frame (wpE defs₀ 𝒱₀ (thr d i) none) Set.univ (.op (.load m r.toLoadRect hl) k) Q) := by
  unfold holds reads
  iintro ⟨%f, %hf, Hf⟩ Hk
  iapply (wp_load_rect (defs := defs₀) 𝒱₀ (thr d i) none Set.univ (Q := Q) (m := m) (r := r) (hl := hl) (k := k)
    (S := m.view.set) (q := fullShare) (f := f) (View.set_slice_subset _ _)) $$ Hf
  iintro Hf
  have hr : (m.access r).read (Elt F) f = fun x => w (r.emb x) := by subst hf; rfl
  rw [hr]
  iapply Hk
  iexists f; isplitr
  · ipureintro; exact hf
  · iexact Hf

theorem read_whole_access {sp : Space} {s : Shape} {e : EltTy} (m : Memref sig .scVector sp s e) (f : m.view.ty.Contents (Elt F)) :
    (m.access (.whole s)).read (Elt F) f = m.view.read (Elt F) f := by
  funext x
  show _root_.cast _ (f (m.view.emb ((Rect.whole s).emb x))) = _
  rw [View.read_apply]
  congr 2
  rw [Rect.emb_whole_apply]

theorem set_whole_access {sp : Space} {s : Shape} {e : EltTy} (m : Memref sig .scVector sp s e) :
    (m.access (.whole s)).set = m.view.set := by
  rw [View.set_slice, Rect.set_whole]; rfl

/-- One vector of updates stored. -/
theorem wp_vput {α : Type} {Q : α → sProp 𝕄} (tv : Memref sig .scVector .vmem S10000x8 .f32) (w : S10000x8.Idx → Elt F .f32)
    (b0 : BitVec 32) (c v : IVec S16 32) (x : Vec F S16 .f32) (hc : ∀ y, (c y).toNat < 8) (k : PUnit → Prog 𝔼 α) :
    holds d i tv w ⊢ iprop((holds d i tv (storeIdx w ![rowW b0 v, c] x (inbW b0 v) false (chk_ok b0 v c hc))
        -∗ wp frame (wpE defs₀ 𝒱₀ (thr d i) none) Set.univ (k ⟨⟩) Q)
      -∗ wp frame (wpE defs₀ 𝒱₀ (thr d i) none) Set.univ (vput i tv b0 c v x >>= k) Q) := by
  have hw := chk_ok b0 v c hc
  have e : wp frame (wpE defs₀ 𝒱₀ (thr d i) none) Set.univ (vput i tv b0 c v x >>= k) Q
      = wp frame (wpE defs₀ 𝒱₀ (thr d i) none) Set.univ
          (SparseCore.vectorStoreIdx tv ![rowW b0 v, c] x (inbW b0 v) false (k1_idx1_inb c (rowW b0 v) hw) (View.stores_vmem_bits_univ h_S10000x8 rfl) >>= k) Q :=
    wp_assume_of (defs := defs₀) 𝒱₀ (thr d i) none Set.univ (Q := Q)
      (k := fun hw => SparseCore.vectorStoreIdx tv ![rowW b0 v, c] x (inbW b0 v) false (k1_idx1_inb c (rowW b0 v) hw.down) (View.stores_vmem_bits_univ h_S10000x8 rfl) >>= k) hw
  rw [e]
  unfold holds reads
  iintro ⟨%f, %hf, Hf⟩ Hk
  iapply (SparseCore.wp_vectorStoreIdx (defs := defs₀) 𝒱₀ (thr d i) none Set.univ (Q := Q) (base := tv) (k := k) (f := f)) $$ [Hf]
  · rw [set_whole_access]; iexact Hf
  iintro Hf
  iapply Hk
  iexists _; isplitr
  rotate_left
  · rw [set_whole_access]; iexact Hf
  · ipureintro
    rw [← read_whole_access, View.read_write_univ, read_whole_access, hf]

/-! ## Sixteen positions at a time -/

/-- The 8192 elements of a flat array from position `o`, -/
def part {β : Type} (A : S2097152.Idx → β) (o : ℕ) : S8192.Idx → β := fun y => A (flat (o + (y 0).val))
/-- and the sixteen from position `o`. -/
def seg {β : Type} (A : S2097152.Idx → β) (o : ℕ) : S16.Idx → β := fun y => A (flat (o + (y 0).val))

/-- The sixteen elements at place `r` of trip `t`. -/
abbrev off3 (t : Fin k1_t2_loop.trips) (r : Fin 8) : Rect S8192 :=
  Rect.unit (s := S8192) (k1_off3 t (BitVec.ofNat 32 r.val)) S16.size (k1_off3_inb t r)

theorem off3_emb (t : Fin k1_t2_loop.trips) (r : Fin 8) (x : S16.Idx) :
    (((off3 t r).emb x) 0).val = 128 * t.val + 16 * r.val + (x 0).val := by
  have h : k1_off3 t (BitVec.ofNat 32 r.val) 0 = 128 * t.val + 16 * r.val := by rw [k1_off3_eq]; rfl
  show k1_off3 t (BitVec.ofNat 32 r.val) 0 + 1 * (x 0).val = _
  rw [h]; omega

theorem part_emb {β : Type} (A : S2097152.Idx → β) (o : ℕ) (t : Fin k1_t2_loop.trips) (r : Fin 8) :
    (fun x : S16.Idx => part A o ((off3 t r).emb x))
      = seg A (o + (128 * t.val + 16 * r.val)) := by
  funext x
  simp only [part, seg]
  rw [off3_emb]; congr 2; omega

theorem wp_vrow {α : Type} {Q : α → sProp 𝕄} (rb : Memref sig .scVector .vmem S8192 .i32) (R : S2097152.Idx → BitVec 32) (o : ℕ)
    (t : Fin k1_t2_loop.trips) (r : Fin 8) (k : Vec F S16 .i32 → Prog 𝔼 α) :
    holds d i rb (part R o) ⊢ iprop((holds d i rb (part R o) -∗ wp frame (wpE defs₀ 𝒱₀ (thr d i) none) Set.univ (k (seg R (o + (128 * t.val + 16 * r.val)))) Q)
      -∗ wp frame (wpE defs₀ 𝒱₀ (thr d i) none) Set.univ (vrow i rb t r >>= k) Q) := by
  rw [← part_emb]
  exact wp_load16 (F := F) d i rb (part R o) (off3 t r) (View.loadsAt_vmem h_S16) k

theorem wp_vval {α : Type} {Q : α → sProp 𝕄} (sr : Memref sig .scVector .vmem S8192 .f32) (U : S2097152.Idx → Elt F .f32) (o : ℕ)
    (t : Fin k1_t2_loop.trips) (r : Fin 8) (k : Vec F S16 .f32 → Prog 𝔼 α) :
    holds d i sr (part U o) ⊢ iprop((holds d i sr (part U o) -∗ wp frame (wpE defs₀ 𝒱₀ (thr d i) none) Set.univ (k (seg U (o + (128 * t.val + 16 * r.val)))) Q)
      -∗ wp frame (wpE defs₀ 𝒱₀ (thr d i) none) Set.univ (vval i sr t r >>= k) Q) := by
  rw [← part_emb]
  exact wp_load16 (F := F) d i sr (part U o) (off3 t r) (View.loadsAt_vmem h_S16) k

variable (R : S2097152.Idx → BitVec 32) (U : S2097152.Idx → Elt F .f32) (X : S100000x128.Idx → Elt F .f32)

theorem wp_vput_tile {α : Type} {Q : α → sProp 𝕄} (tv : Memref sig .scVector .vmem S10000x8 .f32) (b g n n' o : ℕ) (b0 col : BitVec 32)
    (hb : b0 = BitVec.ofNat 32 (10000 * b)) (hcol : col.toNat = n / 16384) (h16 : n % 16 = 0) (hlt : n < 131072) (hn : n' = n + 16) (ho : o = 131072 * g + n)
    (k : PUnit → Prog 𝔼 α) :
    holds d i tv (tileV R U X b g n) ⊢ iprop((holds d i tv (tileV R U X b g n') -∗ wp frame (wpE defs₀ 𝒱₀ (thr d i) none) Set.univ (k ⟨⟩) Q)
      -∗ wp frame (wpE defs₀ 𝒱₀ (thr d i) none) Set.univ (vput i tv b0 (broadcast S16 col) (seg R o) (seg U o) >>= k) Q) := by
  subst hn ho
  have hc : ∀ y : S16.Idx, (broadcast S16 col y).toNat = n / 16384 := fun _ => hcol
  rw [← storeIdx_tileV R U X b g n b0 hb (broadcast S16 col) (n / 16) (by omega) hc (seg R (131072 * g + n)) (seg U (131072 * g + n))
    (fun k => by unfold seg; rw [Nat.add_assoc]) (fun k => by unfold seg; rw [Nat.add_assoc]) (chk_ok b0 _ _ fun y => by rw [hc]; omega)]
  exact wp_vput d i tv _ b0 _ _ _ (fun y => by rw [hc]; omega) k

/-- One trip of the inner loop: 128 positions on. -/
theorem wp_vtrip (tv : Memref sig .scVector .vmem S10000x8 .f32) (rb : Memref sig .scVector .vmem S8192 .i32) (sr : Memref sig .scVector .vmem S8192 .f32)
    (b g n : ℕ) (b0 col : BitVec 32) (hb : b0 = BitVec.ofNat 32 (10000 * b)) (hcol : col.toNat = n / 16384) (hn : n % 8192 = 0) (hlt : n < 131072)
    (t : Fin k1_t2_loop.trips) :
    iprop(holds d i tv (tileV R U X b g (n + 128 * t.val)) ∗ holds d i rb (part R (131072 * g + n)) ∗ holds d i sr (part U (131072 * g + n)))
      ⊢ wp frame (wpE defs₀ 𝒱₀ (thr d i) none) Set.univ (vtrip i tv rb sr b0 col t)
          fun _ => iprop(holds d i tv (tileV R U X b g (n + 128 * (t.val + 1))) ∗ holds d i rb (part R (131072 * g + n)) ∗ holds d i sr (part U (131072 * g + n))) := by
  have ht : t.val < 64 := Nat.lt_of_lt_of_le t.isLt k1_t2_abs.2.1
  unfold vtrip
  iintro ⟨Ht, Hr, Hs⟩
  iapply (wp_vrow d i rb R (131072 * g + n) t 0) $$ Hr; iintro Hr
  iapply (wp_vval d i sr U (131072 * g + n) t 0) $$ Hs; iintro Hs
  iapply (wp_vrow d i rb R (131072 * g + n) t 1) $$ Hr; iintro Hr
  iapply (wp_vval d i sr U (131072 * g + n) t 1) $$ Hs; iintro Hs
  iapply (wp_vrow d i rb R (131072 * g + n) t 2) $$ Hr; iintro Hr
  iapply (wp_vval d i sr U (131072 * g + n) t 2) $$ Hs; iintro Hs
  iapply (wp_vrow d i rb R (131072 * g + n) t 3) $$ Hr; iintro Hr
  iapply (wp_vval d i sr U (131072 * g + n) t 3) $$ Hs; iintro Hs
  iapply (wp_vrow d i rb R (131072 * g + n) t 4) $$ Hr; iintro Hr
  iapply (wp_vval d i sr U (131072 * g + n) t 4) $$ Hs; iintro Hs
  iapply (wp_vrow d i rb R (131072 * g + n) t 5) $$ Hr; iintro Hr
  iapply (wp_vval d i sr U (131072 * g + n) t 5) $$ Hs; iintro Hs
  iapply (wp_vrow d i rb R (131072 * g + n) t 6) $$ Hr; iintro Hr
  iapply (wp_vval d i sr U (131072 * g + n) t 6) $$ Hs; iintro Hs
  iapply (wp_vrow d i rb R (131072 * g + n) t 7) $$ Hr; iintro Hr
  iapply (wp_vval d i sr U (131072 * g + n) t 7) $$ Hs; iintro Hs
  have step : ∀ (r : Fin 8) {α : Type} {Q : α → sProp 𝕄} (k : PUnit → Prog 𝔼 α),
      holds d i tv (tileV R U X b g (n + 128 * t.val + 16 * r.val))
        ⊢ iprop((holds d i tv (tileV R U X b g (n + 128 * t.val + 16 * (r.val + 1))) -∗ wp frame (wpE defs₀ 𝒱₀ (thr d i) none) Set.univ (k ⟨⟩) Q)
          -∗ wp frame (wpE defs₀ 𝒱₀ (thr d i) none) Set.univ (vput i tv b0 (broadcast S16 col) (seg R (131072 * g + n + (128 * t.val + 16 * r.val)))
              (seg U (131072 * g + n + (128 * t.val + 16 * r.val))) >>= k) Q) := fun r {α Q} k =>
    wp_vput_tile d i R U X tv b g _ _ _ b0 col hb (by have := r.isLt; omega) (by omega) (by have := r.isLt; omega) (by omega) (by omega) k
  iapply (step 0) $$ Ht; iintro Ht
  iapply (step 1) $$ Ht; iintro Ht
  iapply (step 2) $$ Ht; iintro Ht
  iapply (step 3) $$ Ht; iintro Ht
  iapply (step 4) $$ Ht; iintro Ht
  iapply (step 5) $$ Ht; iintro Ht
  iapply (step 6) $$ Ht; iintro Ht
  iapply (step 7) $$ Ht; iintro Ht
  sl_step
  isplitl [Ht]; · iexact Ht
  isplitl [Hr] <;> iassumption

/-- One chunk: 8192 positions on. -/
theorem wp_vloop {α : Type} {Q : α → sProp 𝕄} (tv : Memref sig .scVector .vmem S10000x8 .f32) (rb : Memref sig .scVector .vmem S8192 .i32) (sr : Memref sig .scVector .vmem S8192 .f32)
    (b g n : ℕ) (b0 col : BitVec 32) (hb : b0 = BitVec.ofNat 32 (10000 * b)) (hcol : col.toNat = n / 16384) (hn : n % 8192 = 0) (hlt : n < 131072)
    (k : PUnit → Prog 𝔼 α) :
    iprop(holds d i tv (tileV R U X b g n) ∗ holds d i rb (part R (131072 * g + n)) ∗ holds d i sr (part U (131072 * g + n)))
      ⊢ iprop((holds d i tv (tileV R U X b g (n + 8192)) ∗ holds d i rb (part R (131072 * g + n)) ∗ holds d i sr (part U (131072 * g + n))
          -∗ wp frame (wpE defs₀ 𝒱₀ (thr d i) none) Set.univ (k ⟨⟩) Q)
        -∗ wp frame (wpE defs₀ 𝒱₀ (thr d i) none) Set.univ (vloop i tv rb sr b0 col >>= k) Q) := by
  have h64 : k1_t2_loop.trips = 64 := by decide
  unfold vloop
  iintro HI HK
  iapply (Scf.wp_for_bind frame (wpE defs₀ 𝒱₀ (thr d i) none) Set.univ _ _ _ k1_t2_ok (⟨⟩ : PUnit) (fun t _ => vtrip i tv rb sr b0 col t)
    (fun t _ => iprop(holds d i tv (tileV R U X b g (n + 128 * t)) ∗ holds d i rb (part R (131072 * g + n)) ∗ holds d i sr (part U (131072 * g + n))))
    (fun t _ => wp_vtrip d i R U X tv rb sr b g n b0 col hb hcol hn hlt t)) $$ HI
  iintro %_ HI
  iapply HK
  rw [show n + 8192 = n + 128 * k1_t2_loop.trips by rw [h64]]
  iexact HI

/-! ## Chunks on their way -/

/-- What the subcore owes the launch, its waits beyond `W` all at the index below it, and the evidence its waits are admissible. -/
def duty (O : CellTallies nD τ sig (HIx 1)) (W : Waits sig (HIx 1)) : sProp 𝕄 :=
  iprop(MayWaits (thr d i) (none : HIx 1) O ∗ ∃ W', ⌜∀ p ∈ W', p ∈ W ∨ p.2 = none⌝ ∗ owes (thr d i) O W')

/-- The copy of the 8192 elements from position `o` of a flat array (read at share `q`, reading as `A`) into a buffer, begun
    and not yet awaited. -/
def coming {e : EltTy} (src : Memref sig .scVector .hbm S2097152 e) (dst : Memref sig .scVector .vmem S8192 e) (sm : DmaSem sig)
    (q : PosShare TreeShare) (A : S2097152.Idx → Elt F e) (o : ℕ) : sProp 𝕄 :=
  iprop(∃ (f : Buf (Elt F) (src.view.loc (thr d i))) (I : Finset (Idx (src.view.loc (thr d i)))), ⌜src.view.read (Elt F) f = A ∧ I ⊆ src.view.set⌝
    ∗ Flight countersEmb (thr d i) (.dma sm) (none : HIx 1) dst.view.dmaCredit
        iprop(holds d i dst (part A o) ∗ (src.view.loc (thr d i) ↦[I]{q} f))
    ∗ (src.view.loc (thr d i) ↦[src.view.set \ I]{q} f))

theorem slice_read {e : EltTy} (src : Memref sig .scVector .hbm S2097152 e) (f : Buf (Elt F) (src.view.loc (thr d i))) (off : Fin 1 → ℕ) (o : ℕ)
    (ho : off = ![o]) (h : ∀ a, off a + S8192.size a ≤ S2097152.size a) :
    (src.slice (Rect.unit (s := S2097152) off S8192.size h) (fun _ => rfl)).view.read (Elt F) f = part (src.view.read (Elt F) f) o := by
  subst ho
  funext x
  show src.view.read (Elt F) f ((Rect.unit (s := S2097152) ![o] S8192.size h).emb x) = src.view.read (Elt F) f (flat (o + (x 0).val))
  congr 1
  funext a
  obtain rfl : a = 0 := Subsingleton.elim _ _
  apply Fin.ext
  have hb : o + 8192 ≤ 2097152 := h 0
  have hx : (x 0).val < 8192 := (x 0).isLt
  show o + 1 * (x 0).val = (o + (x 0).val) % 2097152
  omega

theorem wp_fetch1 {α : Type} {Q : α → sProp 𝕄} {e : EltTy} (src : Memref sig .scVector .hbm S2097152 e) (dst : Memref sig .scVector .vmem S8192 e) (sm : DmaSem sig)
    (q : PosShare TreeShare) (A : S2097152.Idx → Elt F e) (off : Fin 1 → ℕ) (o : ℕ)
    (ho : off = ![o]) (h : ∀ a, off a + S8192.size a ≤ S2097152.size a)
    {hsrc : (src.slice (Rect.unit (s := S2097152) off S8192.size h) (fun _ => rfl)).view.WordExact} {hdst : dst.view.WordExact}
    {hsem : DmaTarget.Typed (nD := nD) (p := (thr d i).2) .hbm (.dma sm) (.here dst)}
    (k : PUnit → Prog 𝔼 α) :
    iprop(reads d i q src A ∗ holdsAny (F := F) d i dst ∗ semVal (thr d i, SemLoc.dma sm) 0)
      ⊢ iprop((coming d i src dst sm q A o -∗ wp frame (wpE defs₀ 𝒱₀ (thr d i) none) Set.univ (k ⟨⟩) Q)
        -∗ wp frame (wpE defs₀ 𝒱₀ (thr d i) none) Set.univ
            (.op (.enqueueDma (src.slice (Rect.unit (s := S2097152) off S8192.size h) (fun _ => rfl)) (.here dst) (.dma sm) hsrc hdst hsem) k) Q) := by
  unfold coming holdsAny holds reads
  iintro ⟨⟨%f, %hf, Hf⟩, ⟨%w, %fd, %hfd, Hd⟩, Hv⟩ Hk
  have hsub : (src.slice (Rect.unit (s := S2097152) off S8192.size h) (fun _ => rfl)).view.set ⊆ src.view.set := View.set_slice_subset _ _
  ihave Hs := (pointsTo_split_subset hsub).1 $$ Hf
  icases Hs with ⟨Hs, Hrest⟩
  iapply (wp_dmaLocal (defs := defs₀) countersEmb 𝒱₀ (thr d i) none (Q := Q) (sm := .dma sm) (hsem := hsem) (none : HIx 1) dst.view.dmaCredit rfl
    (View.amount_pos dst.view (.dma sm) (show 0 < S8192.numel by decide)) (subset_refl _)) $$ [Hs Hd Hv]
  · isplitl [Hs]; · iexact Hs
    isplitl [Hd] <;> iassumption
  iintro Hfl
  iapply Hk
  iexists f, _; isplitr
  · ipureintro; exact ⟨hf, hsub⟩
  isplitl [Hfl]
  · iapply (Flight_mono countersEmb (thr d i) ?_) $$ Hfl
    iintro ⟨Hd, Hs⟩
    isplitl [Hd]
    · iexists _; isplitr
      rotate_left
      · iexact Hd
      · ipureintro
        rw [View.read_write_univ]
        exact (slice_read d i src f off o ho h).trans (by rw [hf])
    · iexact Hs
  · iexact Hrest

theorem wp_await1 {α : Type} {Q : α → sProp 𝕄} {e : EltTy} (src : Memref sig .scVector .hbm S2097152 e) (dst : Memref sig .scVector .vmem S8192 e) (sm : DmaSem sig)
    (q : PosShare TreeShare) (A : S2097152.Idx → Elt F e) (o : ℕ) (O : CellTallies nD τ sig (HIx 1)) (W : Waits sig (HIx 1))
    {s' : Shape} (srcw : Memref sig .scVector .hbm s' e) {hsrc : srcw.view.WordExact} {hdst : dst.view.WordExact}
    (k : PUnit → Prog 𝔼 α) :
    iprop(coming d i src dst sm q A o ∗ duty (F := F) d i O W)
      ⊢ iprop((reads d i q src A ∗ holds d i dst (part A o) ∗ semVal (thr d i, SemLoc.dma sm) 0 ∗ duty (F := F) d i O W
          -∗ wp frame (wpE defs₀ 𝒱₀ (thr d i) none) Set.univ (k ⟨⟩) Q)
        -∗ wp frame (wpE defs₀ 𝒱₀ (thr d i) none) Set.univ (.op (.waitDma2 sm srcw dst hsrc hdst) k) Q) := by
  unfold coming duty
  iintro ⟨⟨%f, %I, %hf, Hfl, Hrest⟩, #Hmw, %W', %hW', HO⟩ Hk
  ihave Hm := (MayWaits.elim (SemLoc.dma sm)) $$ Hmw
  iapply (wp_waitLocalO (defs := defs₀) countersEmb 𝒱₀ (thr d i) none (Q := Q) (none : HIx 1) rfl) $$ [Hfl HO Hm]
  · isplitl [Hfl]; · iexact Hfl
    isplitl [HO] <;> iassumption
  iintro ⟨⟨Hd, Hs⟩, Hv, HO⟩
  iapply Hk
  isplitl [Hs Hrest]
  · unfold reads
    iexists f; isplitr
    · ipureintro; exact hf.1
    · iapply (pointsTo_split_subset hf.2).2
      isplitl [Hs] <;> iassumption
  isplitl [Hd]; · iexact Hd
  isplitl [Hv]; · iexact Hv
  isplitr; · iexact Hmw
  iexists _; isplitr
  rotate_left
  · iexact HO
  · ipureintro; intro p hp
    rcases Finset.mem_insert.mp hp with hp | hp
    · exact .inr (hp ▸ rfl)
    · exact hW' p hp

/-- A copy begun and awaited. -/
theorem wp_copy {α : Type} {Q : α → sProp 𝕄} {sp sp' : Space} {s : Shape} {e : EltTy} (hs : 0 < s.numel)
    (src : Memref sig .scVector sp s e) (dst : Memref sig .scVector sp' s e) (sm : DmaSem sig)
    (q : PosShare TreeShare) (f : Buf (Elt F) (src.view.loc (thr d i))) (O : CellTallies nD τ sig (HIx 1)) (W : Waits sig (HIx 1))
    {hsrc hsrc' : src.view.WordExact} {hdst hdst' : dst.view.WordExact}
    {hsem : DmaTarget.Typed (nD := nD) (p := (thr d i).2) sp (.dma sm) (.here dst)}
    (k : PUnit → Prog 𝔼 α) :
    iprop((src.view.loc (thr d i) ↦[src.view.set]{q} f) ∗ holdsAny (F := F) d i dst ∗ semVal (thr d i, SemLoc.dma sm) 0 ∗ duty (F := F) d i O W)
      ⊢ iprop(((src.view.loc (thr d i) ↦[src.view.set]{q} f) ∗ holds d i dst (src.view.read (Elt F) f) ∗ semVal (thr d i, SemLoc.dma sm) 0 ∗ duty (F := F) d i O W
          -∗ wp frame (wpE defs₀ 𝒱₀ (thr d i) none) Set.univ (k ⟨⟩) Q)
        -∗ wp frame (wpE defs₀ 𝒱₀ (thr d i) none) Set.univ
            (.op (.enqueueDma src (.here dst) (.dma sm) hsrc hdst hsem) fun _ => .op (.waitDma2 sm src dst hsrc' hdst') k) Q) := by
  unfold holdsAny holds reads duty
  iintro ⟨Hs, ⟨%w, %fd, %hfd, Hd⟩, Hv, #Hmw, %W', %hW', HO⟩ Hk
  iapply (wp_dmaLocal (defs := defs₀) countersEmb 𝒱₀ (thr d i) none (Q := Q) (sm := .dma sm) (hsem := hsem) (none : HIx 1) dst.view.dmaCredit rfl
    (View.amount_pos dst.view (.dma sm) hs) (subset_refl _)) $$ [Hs Hd Hv]
  · isplitl [Hs]; · iexact Hs
    isplitl [Hd] <;> iassumption
  iintro Hfl
  ihave Hm := (MayWaits.elim (SemLoc.dma sm)) $$ Hmw
  iapply (wp_waitLocalO (defs := defs₀) countersEmb 𝒱₀ (thr d i) none (Q := Q) (none : HIx 1) rfl) $$ [Hfl HO Hm]
  · isplitl [Hfl]; · iexact Hfl
    isplitl [HO] <;> iassumption
  iintro ⟨⟨Hd, Hs⟩, Hv, HO⟩
  iapply Hk
  isplitl [Hs]; · iexact Hs
  isplitl [Hd]
  · iexists _; isplitr
    rotate_left
    · iexact Hd
    · ipureintro; rw [View.read_write_univ]
  isplitl [Hv]; · iexact Hv
  isplitr; · iexact Hmw
  iexists _; isplitr
  rotate_left
  · iexact HO
  · ipureintro; intro p hp
    rcases Finset.mem_insert.mp hp with hp | hp
    · exact .inr (hp ▸ rfl)
    · exact hW' p hp

/-! ## The two buffers of a phase -/

/-- The tile's number in round `r`. -/
abbrev tidN (r : ℕ) : ℕ := 2 * (i 1).val + (i 0).val + 32 * r

section Slot

variable (arg3 : Memref sig .scVector .hbm S2097152 .i32) (arg4 : Memref sig .scVector .hbm S2097152 .f32)
  (arg6 : Memref sig .scVector .vmem S10000x8 .f32)
  (rb : Memref sig .scVector .vmem S8192 .i32) (hrb : rb.IsWhole) (sr : Memref sig .scVector .vmem S8192 .f32) (hsr : sr.IsWhole)
  (sa sb : DmaSems sig S_) (q : PosShare TreeShare)

/-- A chunk's row numbers and values on their way; -/
def coming2 (o : ℕ) : sProp 𝕄 := iprop(coming d i arg3 rb sa.sem q R o ∗ coming d i arg4 sr sb.sem q U o)

/-- nothing on its way. -/
def idle : sProp 𝕄 :=
  iprop((reads d i q arg3 R ∗ holdsAny (F := F) d i rb ∗ semVal (thr d i, SemLoc.dma sa.sem) 0)
    ∗ (reads d i q arg4 U ∗ holdsAny (F := F) d i sr ∗ semVal (thr d i, SemLoc.dma sb.sem) 0))

/-- What the phase's buffers hold when chunk `n` of group `g` is the next they get: that chunk on its way, or nothing when
    the tile has no chunk `n`. -/
def slot (g n : ℕ) : sProp 𝕄 :=
  if n < 16 then coming2 d i R U arg3 arg4 rb sr sa sb q (131072 * g + 8192 * n) else idle d i R U arg3 arg4 rb sr sa sb q

theorem wp_fetch {α : Type} {Q : α → sProp 𝕄} (off : Fin 1 → ℕ) (o : ℕ)
    (ho : off = ![o]) (h : ∀ a, off a + S8192.size a ≤ S2097152.size a) (k : PUnit → Prog 𝔼 α) :
    idle d i R U arg3 arg4 rb sr sa sb q
      ⊢ iprop((coming2 d i R U arg3 arg4 rb sr sa sb q o -∗ wp frame (wpE defs₀ 𝒱₀ (thr d i) none) Set.univ (k ⟨⟩) Q)
        -∗ wp frame (wpE defs₀ 𝒱₀ (thr d i) none) Set.univ (fetch i arg3 arg4 rb hrb sr hsr sa sb off h >>= k) Q) := by
  unfold idle coming2 fetch
  iintro ⟨Ha, Hb⟩ Hk
  iapply (wp_fetch1 d i arg3 rb sa.sem q R off o ho h) $$ Ha
  iintro Ha
  iapply (wp_fetch1 d i arg4 sr sb.sem q U off o ho h) $$ Hb
  iintro Hb
  iapply Hk
  isplitl [Ha] <;> iassumption

theorem wp_await {α : Type} {Q : α → sProp 𝕄} (o : ℕ) (O : CellTallies nD τ sig (HIx 1)) (W : Waits sig (HIx 1)) (k : PUnit → Prog 𝔼 α) :
    iprop(coming2 d i R U arg3 arg4 rb sr sa sb q o ∗ duty (F := F) d i O W)
      ⊢ iprop(((reads d i q arg3 R ∗ holds d i rb (part R o) ∗ semVal (thr d i, SemLoc.dma sa.sem) 0)
            ∗ (reads d i q arg4 U ∗ holds d i sr (part U o) ∗ semVal (thr d i, SemLoc.dma sb.sem) 0) ∗ duty (F := F) d i O W
            -∗ wp frame (wpE defs₀ 𝒱₀ (thr d i) none) Set.univ (k ⟨⟩) Q)
        -∗ wp frame (wpE defs₀ 𝒱₀ (thr d i) none) Set.univ (await i arg3 arg4 rb hrb sr hsr sa sb >>= k) Q) := by
  unfold coming2 await
  iintro ⟨⟨Ha, Hb⟩, HO⟩ Hk
  iapply (wp_await1 d i arg3 rb sa.sem q R o O W) $$ [Ha HO]
  · isplitl [Ha] <;> iassumption
  iintro ⟨Ha, Har, Hav, HO⟩
  iapply (wp_await1 d i arg4 sr sb.sem q U o O W) $$ [Hb HO]
  · isplitl [Hb] <;> iassumption
  iintro ⟨Hb, Hbr, Hbv, HO⟩
  iapply Hk
  isplitl [Ha Har Hav]
  · isplitl [Ha]; · iexact Ha
    isplitl [Har] <;> iassumption
  isplitl [Hb Hbr Hbv]
  · isplitl [Hb]; · iexact Hb
    isplitl [Hbr] <;> iassumption
  iexact HO

/-- One phase. -/
theorem wp_phase {α β : Type} {Q : α → sProp 𝕄} (w : β) (r : Fin 5) (t : Fin k1_t1_loop.trips) (p : Fin 2) (qw : BitVec 32) (hqw : qw = chunkW t (phW p))
    (n : ℕ) (hn : n = 2 * t.val + p.val) (O : CellTallies nD τ sig (HIx 1)) (W : Waits sig (HIx 1)) (k : β → Prog 𝔼 α) :
    iprop(holds d i arg6 (tileV R U X (tidN i r.val / 16) (tidN i r.val % 16) (8192 * n)) ∗ slot d i R U arg3 arg4 rb sr sa sb q (tidN i r.val % 16) n ∗ duty (F := F) d i O W)
      ⊢ iprop((holds d i arg6 (tileV R U X (tidN i r.val / 16) (tidN i r.val % 16) (8192 * (n + 1))) ∗ slot d i R U arg3 arg4 rb sr sa sb q (tidN i r.val % 16) (n + 2) ∗ duty (F := F) d i O W
          -∗ wp frame (wpE defs₀ 𝒱₀ (thr d i) none) Set.univ (k w) Q)
        -∗ wp frame (wpE defs₀ 𝒱₀ (thr d i) none) Set.univ (phase i arg3 arg4 arg6 w rb hrb sr hsr sa sb r t p qw >>= k) Q) := by
  have ht : t.val < 8 := Nat.lt_of_lt_of_le t.isLt k1_t1_abs.2.1
  have hp : p.val < 2 := p.isLt
  subst hqw
  unfold phase slot
  rw [if_pos (show n < 16 by omega), colW_eq]
  simp only [bind_assoc]
  iintro ⟨Ht, Hc, HO⟩ Hk
  iapply (wp_await d i R U arg3 arg4 rb hrb sr hsr sa sb q _ O W) $$ [Hc HO]
  · isplitl [Hc] <;> iassumption
  iintro ⟨⟨Ha, Har, Hav⟩, ⟨Hb, Hbr, Hbv⟩, HO⟩
  iapply (wp_vloop d i R U X arg6 rb sr (tidN i r.val / 16) (tidN i r.val % 16) (8192 * n) _ _ (bandW_eq i r)
    (by rw [BitVec.toNat_ofNat]; omega) (by omega) (by omega)) $$ [Ht Har Hbr]
  · isplitl [Ht]; · iexact Ht
    isplitl [Har] <;> iassumption
  iintro ⟨Ht, Har, Hbr⟩
  ihave Hi : iprop(idle d i R U arg3 arg4 rb sr sa sb q) $$ [Ha Har Hav Hb Hbr Hbv]
  · unfold idle holdsAny
    isplitl [Ha Har Hav]
    · isplitl [Ha]; · iexact Ha
      isplitl [Har]; · iexists _; iexact Har
      iexact Hav
    · isplitl [Hb]; · iexact Hb
      isplitl [Hbr]; · iexists _; iexact Hbr
      iexact Hbv
  by_cases hm : moreW t (phW p) = 1#1
  · rw [dif_pos hm]
    have h7 := (moreW_iff t p).mp hm
    rw [if_pos (show n + 2 < 16 by omega)]
    simp only [bind_assoc, pure_bind]
    iapply (wp_fetch d i R U arg3 arg4 rb hrb sr hsr sa sb q _ (131072 * (tidN i r.val % 16) + 8192 * (n + 2))
      ((nextOff_eq i r t p).trans (by rw [hn])) (nextOff_inb i r t p hm)) $$ Hi
    iintro Hc
    iapply Hk
    isplitl [Ht]; · iexact Ht
    isplitl [Hc] <;> iassumption
  · rw [dif_neg hm]
    have h7 : ¬ t.val < 7 := fun h => hm ((moreW_iff t p).mpr h)
    rw [if_neg (show ¬ n + 2 < 16 by omega)]
    simp only [pure_bind]
    iapply Hk
    isplitl [Ht]; · iexact Ht
    isplitl [Hi] <;> iassumption

end Slot

/-! ## One tile -/

section Whole

variable (arg2 : Memref sig .scVector .hbm S100000x128 .f32) (arg3 : Memref sig .scVector .hbm S2097152 .i32)
  (arg4 : Memref sig .scVector .hbm S2097152 .f32) (arg5 : Memref sig .scVector .hbm S100000x128 .f32)
  (arg6 : Memref sig .scVector .vmem S10000x8 .f32) (harg6 : arg6.IsWhole) (arg7 : Memref sig .scVector .vmem S8192 .i32) (harg7 : arg7.IsWhole)
  (arg8 : Memref sig .scVector .vmem S8192 .i32) (harg8 : arg8.IsWhole) (arg9 : Memref sig .scVector .vmem S8192 .f32) (harg9 : arg9.IsWhole)
  (arg10 : Memref sig .scVector .vmem S8192 .f32) (harg10 : arg10.IsWhole) (arg11 arg12 arg13 arg14 : DmaSems sig S_)
  (q : PosShare TreeShare)

/-- Both phases' buffers, chunk `n` the first's next and `n + 1` the second's. Each reads the arrays at a half of the share. -/
def slots (g n : ℕ) : sProp 𝕄 :=
  iprop(slot d i R U arg3 arg4 arg7 arg9 arg11 arg13 q.left g n ∗ slot d i R U arg3 arg4 arg8 arg10 arg12 arg14 q.right g (n + 1))

/-- Both idle. -/
def idles : sProp 𝕄 :=
  iprop(idle d i R U arg3 arg4 arg7 arg9 arg11 arg13 q.left ∗ idle d i R U arg3 arg4 arg8 arg10 arg12 arg14 q.right)

/-- The subcore's block of rows and columns in round `r`. -/
abbrev rect2 (r : Fin 5) : Rect S100000x128 := Rect.unit (s := S100000x128) (k1_off2 i (litW r)) S10000x8.size (k1_off2_inb i r)

/-- The tile of round `r` after its first `n` updates. -/
abbrev tileR (r : Fin 5) (n : ℕ) : S10000x8.Idx → Elt F .f32 := tileV R U X (tidN i r.val / 16) (tidN i r.val % 16) n

theorem wp_pair (r : Fin 5) (t : Fin k1_t1_loop.trips) (O : CellTallies nD τ sig (HIx 1)) (W : Waits sig (HIx 1)) :
    iprop(holds d i arg6 (tileR i R U X r (16384 * t.val)) ∗ slots d i R U arg3 arg4 arg7 arg8 arg9 arg10 arg11 arg12 arg13 arg14 q (tidN i r.val % 16) (2 * t.val) ∗ duty (F := F) d i O W)
      ⊢ wp frame (wpE defs₀ 𝒱₀ (thr d i) none) Set.univ
          (pair i arg3 arg4 arg6 arg7 harg7 arg8 harg8 arg9 harg9 arg10 harg10 arg11 arg12 arg13 arg14 r t)
          fun _ => iprop(holds d i arg6 (tileR i R U X r (16384 * (t.val + 1))) ∗ slots d i R U arg3 arg4 arg7 arg8 arg9 arg10 arg11 arg12 arg13 arg14 q (tidN i r.val % 16) (2 * (t.val + 1)) ∗ duty (F := F) d i O W) := by
  unfold pair slots
  iintro ⟨Ht, ⟨H0, H1⟩, HO⟩
  iapply (wp_phase d i R U X arg3 arg4 arg6 arg7 harg7 arg9 harg9 arg11 arg13 q.left (pairMid t) r t 0 _ rfl (2 * t.val) rfl O W) $$ [Ht H0 HO]
  · isplitl [Ht]
    · rw [show 8192 * (2 * t.val) = 16384 * t.val by omega]; iexact Ht
    isplitl [H0] <;> iassumption
  iintro ⟨Ht, H0, HO⟩
  dsimp only [pairMid]
  rw [← bind_pure (phase i arg3 arg4 arg6 PUnit.unit arg8 harg8 arg10 harg10 arg12 arg14 r t 1 _)]
  iapply (wp_phase d i R U X arg3 arg4 arg6 arg8 harg8 arg10 harg10 arg12 arg14 q.right PUnit.unit r t 1 _ rfl (2 * t.val + 1) rfl O W) $$ [Ht H1 HO]
  · isplitl [Ht]; · iexact Ht
    isplitl [H1] <;> iassumption
  iintro ⟨Ht, H1, HO⟩
  sl_step
  isplitl [Ht]
  · rw [show 16384 * (t.val + 1) = 8192 * (2 * t.val + 1 + 1) by omega]; iexact Ht
  isplitl [H0 H1]
  · rw [show 2 * (t.val + 1) = 2 * t.val + 2 by omega]
    isplitl [H0]; · iexact H0
    iexact H1
  · iexact HO

theorem wp_prime {α : Type} {Q : α → sProp 𝕄} (r : Fin 5) (k : PUnit → Prog 𝔼 α) :
    idles d i R U arg3 arg4 arg7 arg8 arg9 arg10 arg11 arg12 arg13 arg14 q
      ⊢ iprop((slots d i R U arg3 arg4 arg7 arg8 arg9 arg10 arg11 arg12 arg13 arg14 q (tidN i r.val % 16) 0
          -∗ wp frame (wpE defs₀ 𝒱₀ (thr d i) none) Set.univ (k ⟨⟩) Q)
        -∗ wp frame (wpE defs₀ 𝒱₀ (thr d i) none) Set.univ
            (prime i arg3 arg4 arg7 harg7 arg8 harg8 arg9 harg9 arg10 harg10 arg11 arg12 arg13 arg14 r >>= k) Q) := by
  unfold prime idles slots slot
  rw [if_pos (by decide), if_pos (by decide)]
  simp only [bind_assoc]
  iintro ⟨H0, H1⟩ Hk
  iapply (wp_fetch d i R U arg3 arg4 arg7 harg7 arg9 harg9 arg11 arg13 q.left _ _ (k1_off1_eq i r 0) (k1_off1_inb i r 0)) $$ H0
  iintro H0
  iapply (wp_fetch d i R U arg3 arg4 arg8 harg8 arg10 harg10 arg12 arg14 q.right _ _ (k1_off1_eq i r 1) (k1_off1_inb i r 1)) $$ H1
  iintro H1
  iapply Hk
  isplitl [H0]; · iexact H0
  iexact H1

theorem rect2_read (m : Memref sig .scVector .hbm S100000x128 .f32) (f : Buf (Elt F) (m.view.loc (thr d i))) (r : Fin 5) (hX : m.view.read (Elt F) f = X) :
    (m.slice (rect2 i r) (fun _ => rfl)).view.read (Elt F) f = tileR i R U X r 0 := by
  subst hX
  funext x
  show m.view.read (Elt F) f ((rect2 i r).emb x) = m.view.read (Elt F) f (cell (10000 * (tidN i r.val / 16) + (x 0).val) (8 * (tidN i r.val % 16) + (x 1).val))
  have h0 : k1_off2 i (litW r) 0 = 10000 * (tidN i r.val / 16) := by rw [off2_eq]; rfl
  have h1 : k1_off2 i (litW r) 1 = 8 * (tidN i r.val % 16) := by rw [off2_eq]; rfl
  have b0 := k1_off2_inb i r 0
  have b1 := k1_off2_inb i r 1
  rw [h0] at b0
  rw [h1] at b1
  change _ + 10000 ≤ 100000 at b0
  change _ + 8 ≤ 128 at b1
  have hx0 : (x 0).val < 10000 := (x 0).isLt
  have hx1 : (x 1).val < 8 := (x 1).isLt
  congr 1
  funext a
  apply Fin.ext
  match a with
  | 0 =>
    show k1_off2 i (litW r) 0 + 1 * (x 0).val = (10000 * (tidN i r.val / 16) + (x 0).val) % 100000
    rw [h0]; omega
  | 1 =>
    show k1_off2 i (litW r) 1 + 1 * (x 1).val = (8 * (tidN i r.val % 16) + (x 1).val) % 128
    rw [h1]; omega

theorem wp_tileIn {α : Type} {Q : α → sProp 𝕄} (s : DmaSems sig S_) (r : Fin 5) (O : CellTallies nD τ sig (HIx 1)) (W : Waits sig (HIx 1)) (k : PUnit → Prog 𝔼 α) :
    iprop(reads d i q arg2 X ∗ holdsAny (F := F) d i arg6 ∗ semVal (thr d i, SemLoc.dma s.sem) 0 ∗ duty (F := F) d i O W)
      ⊢ iprop((reads d i q arg2 X ∗ holds d i arg6 (tileR i R U X r 0) ∗ semVal (thr d i, SemLoc.dma s.sem) 0 ∗ duty (F := F) d i O W
          -∗ wp frame (wpE defs₀ 𝒱₀ (thr d i) none) Set.univ (k ⟨⟩) Q)
        -∗ wp frame (wpE defs₀ 𝒱₀ (thr d i) none) Set.univ (tileIn i arg2 arg6 harg6 s r >>= k) Q) := by
  unfold tileIn reads
  iintro ⟨⟨%f, %hf, Hf⟩, Ht, Hv, HO⟩ Hk
  have hsub : (arg2.slice (rect2 i r) (fun _ => rfl)).view.set ⊆ arg2.view.set := View.set_slice_subset _ _
  ihave Hs := (pointsTo_split_subset hsub).1 $$ Hf
  icases Hs with ⟨Hs, Hrest⟩
  iapply (wp_copy d i (show 0 < S10000x8.numel by decide) (arg2.slice (rect2 i r) (fun _ => rfl)) arg6 s.sem q f O W) $$ [Hs Ht Hv HO]
  · isplitl [Hs]; · iexact Hs
    isplitl [Ht]; · iexact Ht
    isplitl [Hv] <;> iassumption
  iintro ⟨Hs, Ht, Hv, HO⟩
  rw [rect2_read d i R U X arg2 f r hf]
  iapply Hk
  isplitl [Hs Hrest]
  · iexists f; isplitr
    · ipureintro; exact hf
    · iapply (pointsTo_split_subset hsub).2
      isplitl [Hs] <;> iassumption
  isplitl [Ht]; · iexact Ht
  isplitl [Hv] <;> iassumption

theorem wp_tileOut {α : Type} {Q : α → sProp 𝕄} (s : DmaSems sig S_) (r : Fin 5) (w : S10000x8.Idx → Elt F .f32) (O : CellTallies nD τ sig (HIx 1)) (W : Waits sig (HIx 1)) (k : PUnit → Prog 𝔼 α) :
    iprop(holds d i arg6 w ∗ holdsAny (F := F) d i (arg5.slice (rect2 i r) (fun _ => rfl)) ∗ semVal (thr d i, SemLoc.dma s.sem) 0 ∗ duty (F := F) d i O W)
      ⊢ iprop((holdsAny (F := F) d i arg6 ∗ holds d i (arg5.slice (rect2 i r) (fun _ => rfl)) w ∗ semVal (thr d i, SemLoc.dma s.sem) 0 ∗ duty (F := F) d i O W
          -∗ wp frame (wpE defs₀ 𝒱₀ (thr d i) none) Set.univ (k ⟨⟩) Q)
        -∗ wp frame (wpE defs₀ 𝒱₀ (thr d i) none) Set.univ (tileOut i arg5 arg6 harg6 s r >>= k) Q) := by
  unfold tileOut
  iintro ⟨Hf, Ho, Hv, HO⟩ Hk
  ihave Hf' := (show holds d i arg6 w ⊢ iprop(∃ f, ⌜arg6.view.read (Elt F) f = w⌝ ∗ (arg6.view.loc (thr d i) ↦[arg6.view.set]{fullShare} f)) from .rfl) $$ Hf
  icases Hf' with ⟨%f, %hf, Hf⟩
  iapply (wp_copy d i (show 0 < S10000x8.numel by decide) arg6 (arg5.slice (rect2 i r) (fun _ => rfl)) s.sem fullShare f O W) $$ [Hf Ho Hv HO]
  · isplitl [Hf]; · iexact Hf
    isplitl [Ho]; · iexact Ho
    isplitl [Hv] <;> iassumption
  iintro ⟨Hf, Ho, Hv, HO⟩
  rw [hf]
  iapply Hk
  isplitl [Hf]
  · unfold holdsAny holds reads
    iexists _, f; isplitr
    · ipureintro; rfl
    · iexact Hf
  isplitl [Ho]; · iexact Ho
  isplitl [Hv] <;> iassumption

theorem wp_work {α : Type} {Q : α → sProp 𝕄} (s : DmaSems sig S_) (r : Fin 5) (O : CellTallies nD τ sig (HIx 1)) (W : Waits sig (HIx 1)) (k : PUnit → Prog 𝔼 α) :
    iprop(reads d i q arg2 X ∗ holdsAny (F := F) d i arg6 ∗ semVal (thr d i, SemLoc.dma s.sem) 0
        ∗ slots d i R U arg3 arg4 arg7 arg8 arg9 arg10 arg11 arg12 arg13 arg14 q (tidN i r.val % 16) 0 ∗ duty (F := F) d i O W)
      ⊢ iprop((reads d i q arg2 X ∗ holds d i arg6 (tileR i R U X r 131072) ∗ semVal (thr d i, SemLoc.dma s.sem) 0
            ∗ idles d i R U arg3 arg4 arg7 arg8 arg9 arg10 arg11 arg12 arg13 arg14 q ∗ duty (F := F) d i O W
          -∗ wp frame (wpE defs₀ 𝒱₀ (thr d i) none) Set.univ (k ⟨⟩) Q)
        -∗ wp frame (wpE defs₀ 𝒱₀ (thr d i) none) Set.univ
            (work i arg2 arg3 arg4 arg6 harg6 arg7 harg7 arg8 harg8 arg9 harg9 arg10 harg10 arg11 arg12 arg13 arg14 s r >>= k) Q) := by
  have h8 : k1_t1_loop.trips = 8 := by decide
  unfold work
  simp only [bind_assoc]
  iintro ⟨Hx, Ht, Hv, Hs, HO⟩ Hk
  iapply (wp_tileIn d i R U X arg2 arg6 harg6 q s r O W) $$ [Hx Ht Hv HO]
  · isplitl [Hx]; · iexact Hx
    isplitl [Ht]; · iexact Ht
    isplitl [Hv] <;> iassumption
  iintro ⟨Hx, Ht, Hv, HO⟩
  iapply (Scf.wp_for_bind frame (wpE defs₀ 𝒱₀ (thr d i) none) Set.univ _ _ _ k1_t1_ok (⟨⟩ : PUnit)
    (fun t _ => pair i arg3 arg4 arg6 arg7 harg7 arg8 harg8 arg9 harg9 arg10 harg10 arg11 arg12 arg13 arg14 r t)
    (fun t _ => iprop(holds d i arg6 (tileR i R U X r (16384 * t)) ∗ slots d i R U arg3 arg4 arg7 arg8 arg9 arg10 arg11 arg12 arg13 arg14 q (tidN i r.val % 16) (2 * t) ∗ duty (F := F) d i O W))
    (fun t _ => wp_pair d i R U X arg3 arg4 arg6 arg7 harg7 arg8 harg8 arg9 harg9 arg10 harg10 arg11 arg12 arg13 arg14 q r t O W)) $$ [Ht Hs HO]
  · isplitl [Ht]; · iexact Ht
    isplitl [Hs] <;> iassumption
  iintro %_ ⟨Ht, Hs, HO⟩
  iapply Hk
  isplitl [Hx]; · iexact Hx
  isplitl [Ht]
  · rw [show 131072 = 16384 * k1_t1_loop.trips by rw [h8]]; iexact Ht
  isplitl [Hv]; · iexact Hv
  isplitl [Hs]
  · unfold slots slot idles
    rw [if_neg (show ¬ 2 * k1_t1_loop.trips < 16 by rw [h8]; decide), if_neg (show ¬ 2 * k1_t1_loop.trips + 1 < 16 by rw [h8]; decide)]
    iexact Hs
  · iexact HO

/-- A tile with another after it: its block of the result done, the next one's chunks on their way. -/
theorem wp_tileMore {α : Type} {Q : α → sProp 𝕄} (s s' : DmaSems sig S_) (r r' : Fin 5) (O : CellTallies nD τ sig (HIx 1)) (W : Waits sig (HIx 1)) (k : PUnit → Prog 𝔼 α) :
    iprop((reads d i q arg2 X ∗ holdsAny (F := F) d i arg6 ∗ slots d i R U arg3 arg4 arg7 arg8 arg9 arg10 arg11 arg12 arg13 arg14 q (tidN i r.val % 16) 0 ∗ duty (F := F) d i O W)
        ∗ holdsAny (F := F) d i (arg5.slice (rect2 i r) (fun _ => rfl)) ∗ semVal (thr d i, SemLoc.dma s.sem) 0 ∗ semVal (thr d i, SemLoc.dma s'.sem) 0)
      ⊢ iprop(((reads d i q arg2 X ∗ holdsAny (F := F) d i arg6 ∗ slots d i R U arg3 arg4 arg7 arg8 arg9 arg10 arg11 arg12 arg13 arg14 q (tidN i r'.val % 16) 0 ∗ duty (F := F) d i O W)
            ∗ holds d i (arg5.slice (rect2 i r) (fun _ => rfl)) (tileR i R U X r 131072) ∗ semVal (thr d i, SemLoc.dma s.sem) 0 ∗ semVal (thr d i, SemLoc.dma s'.sem) 0
          -∗ wp frame (wpE defs₀ 𝒱₀ (thr d i) none) Set.univ (k ⟨⟩) Q)
        -∗ wp frame (wpE defs₀ 𝒱₀ (thr d i) none) Set.univ
            (tileMore i arg2 arg3 arg4 arg5 arg6 harg6 arg7 harg7 arg8 harg8 arg9 harg9 arg10 harg10 arg11 arg12 arg13 arg14 s s' r r' >>= k) Q) := by
  unfold tileMore
  simp only [bind_assoc]
  iintro ⟨⟨Hx, Ht, Hs, HO⟩, Ho, Hv, Hv'⟩ Hk
  iapply (wp_work d i R U X arg2 arg3 arg4 arg6 harg6 arg7 harg7 arg8 harg8 arg9 harg9 arg10 harg10 arg11 arg12 arg13 arg14 q s r O W) $$ [Hx Ht Hs HO Hv]
  · isplitl [Hx]; · iexact Hx
    isplitl [Ht]; · iexact Ht
    isplitl [Hv]; · iexact Hv
    isplitl [Hs] <;> iassumption
  iintro ⟨Hx, Ht, Hv, Hs, HO⟩
  iapply (wp_prime d i R U arg3 arg4 arg7 harg7 arg8 harg8 arg9 harg9 arg10 harg10 arg11 arg12 arg13 arg14 q r') $$ Hs
  iintro Hs
  iapply (wp_tileOut d i arg5 arg6 harg6 s' r _ O W) $$ [Ht Ho Hv' HO]
  · isplitl [Ht]; · iexact Ht
    isplitl [Ho]; · iexact Ho
    isplitl [Hv'] <;> iassumption
  iintro ⟨Ht, Ho, Hv', HO⟩
  iapply Hk
  isplitl [Hx Ht Hs HO]
  · isplitl [Hx]; · iexact Hx
    isplitl [Ht]; · iexact Ht
    isplitl [Hs] <;> iassumption
  isplitl [Ho]; · iexact Ho
  isplitl [Hv] <;> iassumption

/-- The last tile. -/
theorem wp_tileLast {α : Type} {Q : α → sProp 𝕄} (s s' : DmaSems sig S_) (r : Fin 5) (O : CellTallies nD τ sig (HIx 1)) (W : Waits sig (HIx 1)) (k : PUnit → Prog 𝔼 α) :
    iprop((reads d i q arg2 X ∗ holdsAny (F := F) d i arg6 ∗ slots d i R U arg3 arg4 arg7 arg8 arg9 arg10 arg11 arg12 arg13 arg14 q (tidN i r.val % 16) 0 ∗ duty (F := F) d i O W)
        ∗ holdsAny (F := F) d i (arg5.slice (rect2 i r) (fun _ => rfl)) ∗ semVal (thr d i, SemLoc.dma s.sem) 0 ∗ semVal (thr d i, SemLoc.dma s'.sem) 0)
      ⊢ iprop(((reads d i q arg2 X ∗ holdsAny (F := F) d i arg6 ∗ idles d i R U arg3 arg4 arg7 arg8 arg9 arg10 arg11 arg12 arg13 arg14 q ∗ duty (F := F) d i O W)
            ∗ holds d i (arg5.slice (rect2 i r) (fun _ => rfl)) (tileR i R U X r 131072) ∗ semVal (thr d i, SemLoc.dma s.sem) 0 ∗ semVal (thr d i, SemLoc.dma s'.sem) 0
          -∗ wp frame (wpE defs₀ 𝒱₀ (thr d i) none) Set.univ (k ⟨⟩) Q)
        -∗ wp frame (wpE defs₀ 𝒱₀ (thr d i) none) Set.univ
            (tileLast i arg2 arg3 arg4 arg5 arg6 harg6 arg7 harg7 arg8 harg8 arg9 harg9 arg10 harg10 arg11 arg12 arg13 arg14 s s' r >>= k) Q) := by
  unfold tileLast
  simp only [bind_assoc]
  iintro ⟨⟨Hx, Ht, Hs, HO⟩, Ho, Hv, Hv'⟩ Hk
  iapply (wp_work d i R U X arg2 arg3 arg4 arg6 harg6 arg7 harg7 arg8 harg8 arg9 harg9 arg10 harg10 arg11 arg12 arg13 arg14 q s r O W) $$ [Hx Ht Hs HO Hv]
  · isplitl [Hx]; · iexact Hx
    isplitl [Ht]; · iexact Ht
    isplitl [Hv]; · iexact Hv
    isplitl [Hs] <;> iassumption
  iintro ⟨Hx, Ht, Hv, Hs, HO⟩
  iapply (wp_tileOut d i arg5 arg6 harg6 s' r _ O W) $$ [Ht Ho Hv' HO]
  · isplitl [Ht]; · iexact Ht
    isplitl [Ho]; · iexact Ho
    isplitl [Hv'] <;> iassumption
  iintro ⟨Ht, Ho, Hv', HO⟩
  iapply Hk
  isplitl [Hx Ht Hs HO]
  · isplitl [Hx]; · iexact Hx
    isplitl [Ht]; · iexact Ht
    isplitl [Hs] <;> iassumption
  isplitl [Ho]; · iexact Ho
  isplitl [Hv] <;> iassumption

/-- The subcore's own: its shares of the three arrays read, its scratch with nothing on its way, what it owes. -/
def base (O : CellTallies nD τ sig (HIx 1)) (W : Waits sig (HIx 1)) : sProp 𝕄 :=
  iprop(reads d i q arg2 X ∗ holdsAny (F := F) d i arg6 ∗ idles d i R U arg3 arg4 arg7 arg8 arg9 arg10 arg11 arg12 arg13 arg14 q ∗ duty (F := F) d i O W)

/-- Ten semaphores at zero. -/
def zeros (s0 s1 s2 s3 s4 s5 s6 s7 s8 s9 : DmaSems sig S_) : sProp 𝕄 :=
  iprop(semVal (thr d i, SemLoc.dma s0.sem) 0 ∗ semVal (thr d i, SemLoc.dma s1.sem) 0 ∗ semVal (thr d i, SemLoc.dma s2.sem) 0 ∗ semVal (thr d i, SemLoc.dma s3.sem) 0 ∗ semVal (thr d i, SemLoc.dma s4.sem) 0 ∗ semVal (thr d i, SemLoc.dma s5.sem) 0 ∗ semVal (thr d i, SemLoc.dma s6.sem) 0 ∗ semVal (thr d i, SemLoc.dma s7.sem) 0 ∗ semVal (thr d i, SemLoc.dma s8.sem) 0 ∗ semVal (thr d i, SemLoc.dma s9.sem) 0)

/-- The kernel on one subcore: its five blocks of the result, each after all its updates. -/
theorem wp_kern (s0 s1 s2 s3 s4 s5 s6 s7 s8 s9 : DmaSems sig S_) (O : CellTallies nD τ sig (HIx 1)) (W : Waits sig (HIx 1)) :
    iprop(base d i R U X arg2 arg3 arg4 arg6 arg7 arg8 arg9 arg10 arg11 arg12 arg13 arg14 q O W
        ∗ (bigSep Finset.univ fun r : Fin 5 => holdsAny (F := F) d i (arg5.slice (rect2 i r) (fun _ => rfl)))
        ∗ zeros (F := F) d i s0 s1 s2 s3 s4 s5 s6 s7 s8 s9)
      ⊢ wp frame (wpE defs₀ 𝒱₀ (thr d i) none) Set.univ
            (kern i arg2 arg3 arg4 arg5 arg6 harg6 arg7 harg7 arg8 harg8 arg9 harg9 arg10 harg10 arg11 arg12 arg13 arg14 s0 s1 s2 s3 s4 s5 s6 s7 s8 s9)
          fun _ => iprop(base d i R U X arg2 arg3 arg4 arg6 arg7 arg8 arg9 arg10 arg11 arg12 arg13 arg14 q O W
            ∗ (bigSep Finset.univ fun r : Fin 5 => holds d i (arg5.slice (rect2 i r) (fun _ => rfl)) (tileR i R U X r 131072))
            ∗ zeros (F := F) d i s0 s1 s2 s3 s4 s5 s6 s7 s8 s9) := by
  simp only [bigSep_fin_five]
  unfold kern base zeros
  rw [← bind_pure (tileLast i arg2 arg3 arg4 arg5 arg6 harg6 arg7 harg7 arg8 harg8 arg9 harg9 arg10 harg10 arg11 arg12 arg13 arg14 s8 s9 4)]
  iintro ⟨⟨Hx, Ht, Hs, HO⟩, ⟨H0, H1, H2, H3, H4⟩, ⟨V0, V1, V2, V3, V4, V5, V6, V7, V8, V9⟩⟩
  iapply (wp_prime d i R U arg3 arg4 arg7 harg7 arg8 harg8 arg9 harg9 arg10 harg10 arg11 arg12 arg13 arg14 q 0) $$ Hs
  iintro Hs
  ihave B : iprop(reads d i q arg2 X ∗ holdsAny (F := F) d i arg6 ∗ slots d i R U arg3 arg4 arg7 arg8 arg9 arg10 arg11 arg12 arg13 arg14 q (tidN i (0 : Fin 5).val % 16) 0 ∗ duty (F := F) d i O W) $$ [Hx Ht Hs HO]
  · isplitl [Hx]; · iexact Hx
    isplitl [Ht]; · iexact Ht
    isplitl [Hs] <;> iassumption
  iapply (wp_tileMore d i R U X arg2 arg3 arg4 arg5 arg6 harg6 arg7 harg7 arg8 harg8 arg9 harg9 arg10 harg10 arg11 arg12 arg13 arg14 q s0 s1 0 1 O W) $$ [B H0 V0 V1]
  · isplitl [B]; · iexact B
    isplitl [H0]; · iexact H0
    isplitl [V0] <;> iassumption
  iintro ⟨B, H0, V0, V1⟩
  iapply (wp_tileMore d i R U X arg2 arg3 arg4 arg5 arg6 harg6 arg7 harg7 arg8 harg8 arg9 harg9 arg10 harg10 arg11 arg12 arg13 arg14 q s2 s3 1 2 O W) $$ [B H1 V2 V3]
  · isplitl [B]; · iexact B
    isplitl [H1]; · iexact H1
    isplitl [V2] <;> iassumption
  iintro ⟨B, H1, V2, V3⟩
  iapply (wp_tileMore d i R U X arg2 arg3 arg4 arg5 arg6 harg6 arg7 harg7 arg8 harg8 arg9 harg9 arg10 harg10 arg11 arg12 arg13 arg14 q s4 s5 2 3 O W) $$ [B H2 V4 V5]
  · isplitl [B]; · iexact B
    isplitl [H2]; · iexact H2
    isplitl [V4] <;> iassumption
  iintro ⟨B, H2, V4, V5⟩
  iapply (wp_tileMore d i R U X arg2 arg3 arg4 arg5 arg6 harg6 arg7 harg7 arg8 harg8 arg9 harg9 arg10 harg10 arg11 arg12 arg13 arg14 q s6 s7 3 4 O W) $$ [B H3 V6 V7]
  · isplitl [B]; · iexact B
    isplitl [H3]; · iexact H3
    isplitl [V6] <;> iassumption
  iintro ⟨B, H3, V6, V7⟩
  iapply (wp_tileLast d i R U X arg2 arg3 arg4 arg5 arg6 harg6 arg7 harg7 arg8 harg8 arg9 harg9 arg10 harg10 arg11 arg12 arg13 arg14 q s8 s9 4 O W) $$ [B H4 V8 V9]
  · isplitl [B]; · iexact B
    isplitl [H4]; · iexact H4
    isplitl [V8] <;> iassumption
  iintro ⟨B, H4, V8, V9⟩
  sl_step
  isplitl [B]; · iexact B
  isplitl [H0 H1 H2 H3 H4]
  · isplitl [H0]; · iexact H0
    isplitl [H1]; · iexact H1
    isplitl [H2]; · iexact H2
    isplitl [H3] <;> iassumption
  isplitl [V0]; · iexact V0
  isplitl [V1]; · iexact V1
  isplitl [V2]; · iexact V2
  isplitl [V3]; · iexact V3
  isplitl [V4]; · iexact V4
  isplitl [V5]; · iexact V5
  isplitl [V6]; · iexact V6
  isplitl [V7]; · iexact V7
  isplitl [V8] <;> iassumption

end Whole

end Steps

end Cert.Proof.Run

end
-- ==== Proof.Body.lean ====
/-
  One tile of the SparseCore as the launch starts it: the kernel at the arrays and the scratch it is called with.
-/
module

public import proofs.«01_k».proof.Proof.Run
public import proofs.«01_k».proof.Proof.Gen.KernelIdeal.Launch

@[expose] public section

noncomputable section

namespace Cert.Proof.Launch

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Cert.Proof.Text Cert.Proof.Tile Cert.Proof.Run

variable {F : FTy → Type} [FloatOps F]

local notation "𝕄" => MT nD τ sig (HIx 1) (Elt F) ℕ UU ℕ

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A tile's own semaphores and buffers -/

/-- A family over a set, the members of a list taken out one by one. -/
theorem bigSep_take {ι : Type} [DecidableEq ι] (Φ : ι → sProp 𝕄) : ∀ (l : List ι) (s : Finset ι), l.Nodup → (∀ a ∈ l, a ∈ s) →
    bigSep s Φ = l.foldr (fun a P => iprop(Φ a ∗ P)) (bigSep (s \ l.toFinset) Φ)
  | [], s, _, _ => by simp
  | a :: l, s, hn, hs => by
    have hn' := List.nodup_cons.mp hn
    rw [SparseCore.bigSep_erase' (hs a List.mem_cons_self),
      bigSep_take Φ l (s.erase a) hn'.2 (fun b hb => Finset.mem_erase.mpr ⟨fun e => hn'.1 (e ▸ hb), hs b (List.mem_cons_of_mem _ hb)⟩), List.foldr_cons]
    congr 2
    rw [List.toFinset_cons, Finset.sdiff_insert, Finset.erase_sdiff_comm]

/-- The kernel's semaphores. -/
def sems : List (SemLoc sig) :=
  [.dma cc1_scratch5.sem, .dma cc1_scratch6.sem, .dma cc1_scratch7.sem, .dma cc1_scratch8.sem, .dma cc1_scoped0.sem, .dma cc1_scoped1.sem, .dma cc1_scoped2.sem,
    .dma cc1_scoped3.sem, .dma cc1_scoped4.sem, .dma cc1_scoped5.sem, .dma cc1_scoped6.sem, .dma cc1_scoped7.sem, .dma cc1_scoped8.sem, .dma cc1_scoped9.sem]

/-- The kernel's scratch. -/
def bufs : List (Ref sig .scVector) := [cc1_scratch0, cc1_scratch1, cc1_scratch2, cc1_scratch3, cc1_scratch4]

theorem sems_nodup : sems.Nodup := by decide
theorem sems_scoped : ∀ s ∈ sems, s.isScoped .scVector = true := by decide
theorem bufs_nodup : bufs.Nodup := by decide

theorem ownSems0_V (d : Dev nD) (c : Fin τ.nSC) (j : Fin τ.nSub) :
    (ownSems0 (V d c j) : sProp 𝕄)
      = (sems.map fun s => ((V d c j, s) : GSem nD τ sig)).foldr (fun g P => iprop(semVal g 0 ∗ P))
          (bigSep (ownCells (V d c j) \ (sems.map fun s => ((V d c j, s) : GSem nD τ sig)).toFinset) fun g => semVal g 0) := by
  unfold ownSems0
  refine bigSep_take _ _ _ (sems_nodup.map fun _ _ e => (Prod.mk.inj e).2) fun g hg => ?_
  obtain ⟨s, hs, rfl⟩ := List.mem_map.mp hg
  exact mem_ownCells.mpr ⟨rfl, sems_scoped s hs⟩

theorem bufs_owner (c : Fin τ.nSC) (j : Fin τ.nSub) : ∀ b ∈ bufs, (Proc.devRef (Proc.scVector c j) b).owner = .proc (.scVector c j) := by
  intro b hb
  simp only [bufs, List.mem_cons, List.mem_nil_iff, or_false] at hb
  rcases hb with rfl | rfl | rfl | rfl | rfl <;> rfl

theorem ownBufs_V (d : Dev nD) (c : Fin τ.nSC) (j : Fin τ.nSub) :
    (ownBufs (V d c j) : sProp 𝕄)
      = (bufs.map (Proc.devRef (Proc.scVector c j))).foldr (fun b P => iprop((∃ f, ((d, b) : Loc nD τ sig) ↦{fullShare} f) ∗ P))
          (bigSep (ownRefs (Proc.scVector c j : Proc τ) \ (bufs.map (Proc.devRef (Proc.scVector c j))).toFinset) fun b => iprop(∃ f, ((d, b) : Loc nD τ sig) ↦{fullShare} f)) := by
  unfold ownBufs
  refine bigSep_take _ _ _ (bufs_nodup.map (Proc.devRef_injective _)) fun g hg => ?_
  obtain ⟨b, hb, rfl⟩ := List.mem_map.mp hg
  exact SparseCore.Cfg.mem_ownRefs_of_owner (bufs_owner c j b hb)

/-! ## The kernel at its buffers -/

section Body

variable (d : Dev nD) (i : grid1.Coords)

/-- A whole buffer read as `w` is a points-to. -/
theorem reads_whole (q : PosShare TreeShare) (r : Ref sig .scVector) (w : r.ty.Contents (Elt F)) :
    (reads d i q (Memref.whole r) w : sProp 𝕄) ⊣⊢ ((thr d i).loc r ↦{q} w) := by
  unfold reads
  constructor
  · iintro ⟨%f, %hf, H⟩
    have e : f = w := by rw [← hf]; exact (View.read_whole ..).symm
    subst e
    rw [show (Memref.whole r).view.set = Finset.univ from View.set_whole ..]
    iexact H
  · iintro H
    iexists w
    isplitr
    · ipureintro; exact View.read_whole ..
    rw [show (Memref.whole r).view.set = Finset.univ from View.set_whole ..]
    iexact H

/-! ## The arrays the tiles read and write -/

abbrev xLoc (d : Dev nD) : Loc nD τ sig := (SparseCore.T d).loc main_arg0
abbrev rLoc (d : Dev nD) : Loc nD τ sig := (SparseCore.T d).loc main_v1
abbrev uLoc (d : Dev nD) : Loc nD τ sig := (SparseCore.T d).loc main_v2
abbrev oLoc (d : Dev nD) : Loc nD τ sig := (SparseCore.T d).loc main_v3

/-- The elements of the result a subcore writes in round `r`. -/
def tileSet (r : Fin 5) : Finset S100000x128.Idx := (rect2 i r).set

/-- The position of a cell within its tile. -/
def within (y : S100000x128.Idx) : S10000x8.Idx :=
  fun | ⟨0, _⟩ => ⟨(y 0).val % 10000, Nat.mod_lt _ (by decide)⟩ | ⟨1, _⟩ => ⟨(y 1).val % 8, Nat.mod_lt _ (by decide)⟩

/-- The result: each cell as its tile leaves it. -/
def outV (R : S2097152.Idx → BitVec 32) (U : S2097152.Idx → Elt F .f32) (X : S100000x128.Idx → Elt F .f32) : S100000x128.Idx → Elt F .f32 :=
  fun y => tileV R U X ((y 0).val / 10000) ((y 1).val / 8) 131072 (within y)

theorem emb_rect2 (r : Fin 5) (x : S10000x8.Idx) (a : Fin 2) :
    ((rect2 i r).emb x a).val = ![10000 * (tidN i r.val / 16), 8 * (tidN i r.val % 16)] a + (x a).val := by
  have h : ((rect2 i r).emb x a).val = k1_off2 i (litW r) a + (x a).val := by
    rw [Rect.emb_apply]
    show _ + 1 * _ = _
    rw [Nat.one_mul]; rfl
  rw [h, off2_eq]

theorem outV_emb (R : S2097152.Idx → BitVec 32) (U : S2097152.Idx → Elt F .f32) (X : S100000x128.Idx → Elt F .f32) (r : Fin 5) (x : S10000x8.Idx) :
    outV R U X ((rect2 i r).emb x) = tileR i R U X r 131072 x := by
  have h0 := emb_rect2 i r x 0
  have h1 := emb_rect2 i r x 1
  simp only [Matrix.cons_val_zero, Matrix.cons_val_one] at h0 h1
  have l0 : (x 0).val < 10000 := (x 0).isLt
  have l1 : (x 1).val < 8 := (x 1).isLt
  unfold outV tileR
  have e0 : ((rect2 i r).emb x 0).val / 10000 = tidN i r.val / 16 := by rw [h0]; omega
  have e1 : ((rect2 i r).emb x 1).val / 8 = tidN i r.val % 16 := by rw [h1]; omega
  have e2 : within ((rect2 i r).emb x) = x := by
    funext a
    match a with
    | ⟨0, _⟩ => exact Fin.ext (show ((rect2 i r).emb x 0).val % 10000 = (x 0).val by rw [h0]; omega)
    | ⟨1, _⟩ => exact Fin.ext (show ((rect2 i r).emb x 1).val % 8 = (x 1).val by rw [h1]; omega)
  rw [e0, e1, e2]

local notation "oM" => (Memref.whole Cert.KernelIdeal.main_v3_scv : Memref Cert.KernelIdeal.sig Kind.scVector Space.hbm Cert.KernelIdeal.S100000x128 EltTy.f32)

theorem set_oM (r : Fin 5) : ((oM).slice (rect2 i r) (fun _ => rfl)).view.set = tileSet i r := by
  show ((View.whole (main_v3_scv : Ref sig .scVector)).slice (rect2 i r)).set = _
  rw [View.set_slice]; exact Finset.map_refl

theorem holds_tile (R : S2097152.Idx → BitVec 32) (U : S2097152.Idx → Elt F .f32) (X : S100000x128.Idx → Elt F .f32) (r : Fin 5) :
    (holds d i ((oM).slice (rect2 i r) (fun _ => rfl)) (tileR i R U X r 131072) : sProp 𝕄) ⊢ oLoc d ↦[tileSet i r]{fullShare} (outV R U X) := by
  unfold holds reads
  iintro ⟨%f, %hf, H⟩
  have e : (((oM).slice (rect2 i r) (fun _ => rfl)).view.loc (thr d i) ↦[((oM).slice (rect2 i r) (fun _ => rfl)).view.set]{fullShare} f : sProp 𝕄)
      ⊢ oLoc d ↦[tileSet i r]{fullShare} (outV R U X) := by
    rw [set_oM]
    refine Entails.of_eq (pointsTo_congr (ℓ := oLoc d) (I := tileSet i r) (q := fullShare) (f := f) (g := outV R U X) fun y hy => ?_)
    rw [tileSet, ← Rect.map_emb_univ] at hy
    obtain ⟨x, -, rfl⟩ := Finset.mem_map.mp hy
    rw [outV_emb, ← hf]; rfl
  iapply e $$ H

theorem tile_holdsAny (f : S100000x128.Idx → Elt F .f32) (r : Fin 5) :
    (oLoc d ↦[tileSet i r]{fullShare} f : sProp 𝕄) ⊢ holdsAny (F := F) d i ((oM).slice (rect2 i r) (fun _ => rfl)) := by
  unfold holdsAny holds reads
  iintro H
  iexists _
  iexists f
  isplitr
  · ipureintro; rfl
  have e : (oLoc d ↦[tileSet i r]{fullShare} f : sProp 𝕄)
      ⊢ ((oM).slice (rect2 i r) (fun _ => rfl)).view.loc (thr d i) ↦[((oM).slice (rect2 i r) (fun _ => rfl)).view.set]{fullShare} f := by
    rw [set_oM]
  iapply e $$ H

theorem tiles_holdsAny (f : S100000x128.Idx → Elt F .f32) :
    (bigSep Finset.univ fun r : Fin 5 => (oLoc d ↦[tileSet i r]{fullShare} f : sProp 𝕄))
      ⊢ bigSep Finset.univ fun r : Fin 5 => holdsAny (F := F) d i ((oM).slice (rect2 i r) (fun _ => rfl)) :=
  bigSep_mono fun r _ => tile_holdsAny d i f r

theorem holds_tiles (R : S2097152.Idx → BitVec 32) (U : S2097152.Idx → Elt F .f32) (X : S100000x128.Idx → Elt F .f32) :
    (bigSep Finset.univ fun r : Fin 5 => (holds d i ((oM).slice (rect2 i r) (fun _ => rfl)) (tileR i R U X r 131072) : sProp 𝕄))
      ⊢ bigSep Finset.univ fun r : Fin 5 => (oLoc d ↦[tileSet i r]{fullShare} (outV R U X) : sProp 𝕄) :=
  bigSep_mono fun r _ => holds_tile d i R U X r

/-- A subcore's part: its shares of the three arrays read, its five blocks of the result at `f`. -/
def tilePay (R : S2097152.Idx → BitVec 32) (U : S2097152.Idx → Elt F .f32) (X f : S100000x128.Idx → Elt F .f32) (q : PosShare TreeShare) : sProp 𝕄 :=
  iprop((xLoc d ↦{q} X) ∗ (rLoc d ↦{q} R) ∗ (uLoc d ↦{q} U) ∗ bigSep Finset.univ fun r : Fin 5 => oLoc d ↦[tileSet i r]{fullShare} f)

local notation "xM" => (Memref.whole Cert.KernelIdeal.main_arg0_scv : Memref Cert.KernelIdeal.sig Kind.scVector Space.hbm Cert.KernelIdeal.S100000x128 EltTy.f32)
local notation "rM" => (Memref.whole Cert.KernelIdeal.main_v1_scv : Memref Cert.KernelIdeal.sig Kind.scVector Space.hbm Cert.KernelIdeal.S2097152 EltTy.i32)
local notation "uM" => (Memref.whole Cert.KernelIdeal.main_v2_scv : Memref Cert.KernelIdeal.sig Kind.scVector Space.hbm Cert.KernelIdeal.S2097152 EltTy.f32)
local notation "b0M" => (Memref.whole Cert.KernelIdeal.cc1_scratch0 : Memref Cert.KernelIdeal.sig Kind.scVector Space.vmem Cert.KernelIdeal.S10000x8 EltTy.f32)
local notation "b1M" => (Memref.whole Cert.KernelIdeal.cc1_scratch1 : Memref Cert.KernelIdeal.sig Kind.scVector Space.vmem Cert.KernelIdeal.S8192 EltTy.i32)
local notation "b2M" => (Memref.whole Cert.KernelIdeal.cc1_scratch2 : Memref Cert.KernelIdeal.sig Kind.scVector Space.vmem Cert.KernelIdeal.S8192 EltTy.i32)
local notation "b3M" => (Memref.whole Cert.KernelIdeal.cc1_scratch3 : Memref Cert.KernelIdeal.sig Kind.scVector Space.vmem Cert.KernelIdeal.S8192 EltTy.f32)
local notation "b4M" => (Memref.whole Cert.KernelIdeal.cc1_scratch4 : Memref Cert.KernelIdeal.sig Kind.scVector Space.vmem Cert.KernelIdeal.S8192 EltTy.f32)

/-- A buffer of the subcore's at whatever it holds. -/
theorem holdsAny_whole (r : Ref sig .scVector) :
    (holdsAny (F := F) d i (Memref.whole r) : sProp 𝕄) ⊣⊢ iprop(∃ f, ((d, Proc.devRef (Proc.scVector (Fin.castLE hcore1 (i 0)) (Fin.castLE hsub1 (i 1))) r) : Loc nD τ sig) ↦{fullShare} f) := by
  unfold holdsAny
  constructor
  · iintro ⟨%w, H⟩; iexists w; iapply (reads_whole d i fullShare r w).1 $$ H
  · iintro ⟨%w, H⟩; iexists w; iapply (reads_whole d i fullShare r w).2 $$ H

/-- The kernel as it is called, on one subcore. -/
theorem tile_body (hF : (K (F := F)).Facts) (R : S2097152.Idx → BitVec 32) (U : S2097152.Idx → Elt F .f32) (X f : S100000x128.Idx → Elt F .f32) (q : PosShare TreeShare)
    (O : CellTallies nD τ sig (HIx 1)) (W : Waits sig (HIx 1)) (hO : ∀ g, O g none = 0) :
    iprop(levAts (K (F := F)).L (K (F := F)).lev ∗ emp ∗ tilePay d i R U X f q ∗ scopedBufs (thr d i) ∗ scopedSems0 (thr d i) ∗ owes (thr d i) O W)
      ⊢ wp frame (wpE (defs₀ (F := F)) 𝒱₀ (thr d i) none) Set.univ
          (cc1__sc i xM (Memref.isWhole_whole _) rM (Memref.isWhole_whole _) uM (Memref.isWhole_whole _) oM (Memref.isWhole_whole _)
            b0M (Memref.isWhole_whole _) b1M (Memref.isWhole_whole _) b2M (Memref.isWhole_whole _) b3M (Memref.isWhole_whole _) b4M (Memref.isWhole_whole _)
            cc1_scratch5 cc1_scratch6 cc1_scratch7 cc1_scratch8 cc1_scoped0 cc1_scoped1 cc1_scoped2 cc1_scoped3 cc1_scoped4 cc1_scoped5 cc1_scoped6 cc1_scoped7 cc1_scoped8 cc1_scoped9)
          fun _ => iprop(tilePay d i R U X (outV R U X) q ∗ scopedBufs (thr d i) ∗ scopedSems0 (thr d i)
            ∗ ∃ W', ⌜∀ p ∈ W', p ∈ W ∨ p.2 = none⌝ ∗ owes (thr d i) O W') := by
  rw [kern_eq, (K (F := F)).scopedBufs_V hF d _ _, SparseCore.Cfg.scopedSems0_V (Val := Elt F) d _ _, ownSems0_V, ownBufs_V]
  simp only [sems, bufs, List.map_cons, List.map_nil, List.foldr_cons, List.foldr_nil]
  unfold tilePay
  iintro ⟨#Hlv, -, ⟨Hx, Hr, Hu, Ho⟩, ⟨Hb0, Hb1, Hb2, Hb3, Hb4, Hbs⟩, ⟨Ha, Hb, Hc, Hd, V0, V1, V2, V3, V4, V5, V6, V7, V8, V9, Hss⟩, HO⟩
  ihave Hmw := (show levAts (K (F := F)).L (K (F := F)).lev ⊢ Transfers.MayWaits (thr d i) (none : HIx 1) O from
    (K (F := F)).mayWaits_none (thr := thr d i) hO) $$ Hlv
  ihave Hx := (reads_whole d i q main_arg0_scv X).2 $$ Hx
  ihave Hr := (pointsTo_share (PosShare.mem_left_op_right q)).1 $$ Hr
  icases Hr with ⟨Hr0, Hr1⟩
  ihave Hu := (pointsTo_share (PosShare.mem_left_op_right q)).1 $$ Hu
  icases Hu with ⟨Hu0, Hu1⟩
  ihave Hr0 := (reads_whole d i q.left main_v1_scv R).2 $$ Hr0
  ihave Hr1 := (reads_whole d i q.right main_v1_scv R).2 $$ Hr1
  ihave Hu0 := (reads_whole d i q.left main_v2_scv U).2 $$ Hu0
  ihave Hu1 := (reads_whole d i q.right main_v2_scv U).2 $$ Hu1
  ihave Ho := (tiles_holdsAny (F := F) d i f) $$ Ho
  ihave Hb0 := (holdsAny_whole (F := F) d i cc1_scratch0).2 $$ Hb0
  ihave Hb1 := (holdsAny_whole (F := F) d i cc1_scratch1).2 $$ Hb1
  ihave Hb2 := (holdsAny_whole (F := F) d i cc1_scratch2).2 $$ Hb2
  ihave Hb3 := (holdsAny_whole (F := F) d i cc1_scratch3).2 $$ Hb3
  ihave Hb4 := (holdsAny_whole (F := F) d i cc1_scratch4).2 $$ Hb4
  iapply ((wp_kern (F := F) d i R U X xM rM uM oM b0M (Memref.isWhole_whole _) b1M (Memref.isWhole_whole _) b2M (Memref.isWhole_whole _) b3M (Memref.isWhole_whole _)
      b4M (Memref.isWhole_whole _) cc1_scratch5 cc1_scratch6 cc1_scratch7 cc1_scratch8 q cc1_scoped0 cc1_scoped1 cc1_scoped2 cc1_scoped3 cc1_scoped4 cc1_scoped5 cc1_scoped6
      cc1_scoped7 cc1_scoped8 cc1_scoped9 O W).trans (wp_wand frame (wpE (defs₀ (F := F)) 𝒱₀ (thr d i) none) Set.univ))
    $$ [Hx Hr0 Hr1 Hu0 Hu1 Ho Hb0 Hb1 Hb2 Hb3 Hb4 Ha Hb Hc Hd V0 V1 V2 V3 V4 V5 V6 V7 V8 V9 HO Hmw]
  · unfold base idles idle duty zeros
    isplitl [Hx Hr0 Hr1 Hu0 Hu1 Hb0 Hb1 Hb2 Hb3 Hb4 Ha Hb Hc Hd HO Hmw]
    · isplitl [Hx]; · iexact Hx
      isplitl [Hb0]; · iexact Hb0
      isplitr [HO Hmw]
      · isplitl [Hr0 Hu0 Hb1 Hb3 Ha Hc]
        · isplitl [Hr0 Hb1 Ha]
          · isplitl [Hr0]; · iexact Hr0
            isplitl [Hb1] <;> iassumption
          · isplitl [Hu0]; · iexact Hu0
            isplitl [Hb3] <;> iassumption
        · isplitl [Hr1 Hb2 Hb]
          · isplitl [Hr1]; · iexact Hr1
            isplitl [Hb2] <;> iassumption
          · isplitl [Hu1]; · iexact Hu1
            isplitl [Hb4] <;> iassumption
      · isplitl [Hmw]; · iexact Hmw
        iexists W
        isplitr
        · ipureintro; exact fun p hp => .inl hp
        · iexact HO
    isplitl [Ho]; · iexact Ho
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8] <;> iassumption
  unfold base idles idle duty zeros
  iintro %_ ⟨⟨Hx, Hb0, ⟨⟨⟨Hr0, Hb1, Ha⟩, ⟨Hu0, Hb3, Hc⟩⟩, ⟨Hr1, Hb2, Hb⟩, ⟨Hu1, Hb4, Hd⟩⟩, -, HO⟩, Ho, V0, V1, V2, V3, V4, V5, V6, V7, V8, V9⟩
  ihave Hr0 := (reads_whole d i q.left main_v1_scv R).1 $$ Hr0
  ihave Hr1 := (reads_whole d i q.right main_v1_scv R).1 $$ Hr1
  ihave Hu0 := (reads_whole d i q.left main_v2_scv U).1 $$ Hu0
  ihave Hu1 := (reads_whole d i q.right main_v2_scv U).1 $$ Hu1
  ihave Hr := (pointsTo_share (PosShare.mem_left_op_right q)).2 $$ [Hr0 Hr1]
  · isplitl [Hr0] <;> iassumption
  ihave Hu := (pointsTo_share (PosShare.mem_left_op_right q)).2 $$ [Hu0 Hu1]
  · isplitl [Hu0] <;> iassumption
  isplitl [Hx Hr Hu Ho]
  · isplitl [Hx]; · iapply (reads_whole d i q main_arg0_scv X).1 $$ Hx
    isplitl [Hr]; · iexact Hr
    isplitl [Hu]; · iexact Hu
    iapply (holds_tiles (F := F) d i R U X) $$ Ho
  isplitl [Hb0 Hb1 Hb2 Hb3 Hb4 Hbs]
  · isplitl [Hb0]; · iapply (holdsAny_whole (F := F) d i cc1_scratch0).1 $$ Hb0
    isplitl [Hb1]; · iapply (holdsAny_whole (F := F) d i cc1_scratch1).1 $$ Hb1
    isplitl [Hb2]; · iapply (holdsAny_whole (F := F) d i cc1_scratch2).1 $$ Hb2
    isplitl [Hb3]; · iapply (holdsAny_whole (F := F) d i cc1_scratch3).1 $$ Hb3
    isplitl [Hb4]; · iapply (holdsAny_whole (F := F) d i cc1_scratch4).1 $$ Hb4
    iexact Hbs
  isplitr [HO]
  · isplitl [Ha]; · iexact Ha
    isplitl [Hb]; · iexact Hb
    isplitl [Hc]; · iexact Hc
    isplitl [Hd]; · iexact Hd
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9] <;> iassumption
  · iexact HO

end Body

end Cert.Proof.Launch

end
-- ==== Proof.Split.lean ====
/-
  The SparseCore call as the launch theorem asks for it: what each core and each subcore gets and gives back, one
  subcore's task, and how the arrays split among the 2 cores, 16 subcores and 5 rounds.
-/
module

public import proofs.«01_k».proof.Proof.Body

@[expose] public section

noncomputable section

namespace Cert.Proof.Launch

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Cert.Proof.Text Cert.Proof.Tile Cert.Proof.Run

variable {F : FTy → Type} [FloatOps F]

local notation "𝕄" => MT nD τ sig (HIx 1) (Elt F) ℕ UU ℕ

abbrev EH : Emb UH (MT nD τ sig (HIx 1) (Elt F) ℕ UU ℕ) := embL

/-! ## Shares and parts -/

/-- Core `c`'s share of an array read; -/
abbrev coreq (c : Fin 2) : PosShare TreeShare := dealOf fullShare Finset.univ c
/-- its subcore `s`'s. -/
abbrev subq (c : Fin 2) (s : Fin 16) : PosShare TreeShare := dealOf (coreq c) Finset.univ s

def coordsV (c : Fin (grid1.bound 0)) (s : Fin (grid1.bound 1)) : grid1.Coords :=
  fun | 0 => c | 1 => s | ⟨_ + 2, h⟩ => absurd h (Nat.not_lt.2 (Nat.le_add_left _ _))

variable (m : (ℓ : Loc nD τ sig) → Buf (Elt F) ℓ) (R : Dev nD → S2097152.Idx → BitVec 32) (U : Dev nD → S2097152.Idx → Elt F .f32)

/-- The result on device `d`. -/
def outD (d : Dev nD) : S100000x128.Idx → Elt F .f32 := outV (R d) (U d) (m (xLoc d))

/-- Core `c`'s part: its shares of the three arrays read, its subcores' blocks of the result at `f`. -/
def corePay (d : Dev nD) (f : S100000x128.Idx → Elt F .f32) (c : Fin 2) : sProp 𝕄 :=
  iprop((xLoc d ↦{coreq c} m (xLoc d)) ∗ (rLoc d ↦{coreq c} R d) ∗ (uLoc d ↦{coreq c} U d)
    ∗ bigSep Finset.univ fun s : Fin 16 => bigSep Finset.univ fun r : Fin 5 => oLoc d ↦[tileSet (coordsV c s) r]{fullShare} f)

/-- Subcore `s` of core `c`'s part. -/
def taskPay (d : Dev nD) (f : S100000x128.Idx → Elt F .f32) (c : Fin 2) (s : Fin 16) : sProp 𝕄 :=
  tilePay d (coordsV c s) (R d) (U d) (m (xLoc d)) f (subq c s)

instance corePay_storable (d : Dev nD) (f : S100000x128.Idx → Elt F .f32) (c : Fin 2) :
    BI.Storable (upEmb : UEmb _ 𝕄) (corePay m R U d f c) := by unfold corePay; infer_instance
instance taskPay_storable (d : Dev nD) (f : S100000x128.Idx → Elt F .f32) (c : Fin 2) (s : Fin 16) :
    BI.Storable (upEmb : UEmb _ 𝕄) (taskPay m R U d f c s) := by unfold taskPay tilePay; infer_instance

theorem nCore_zero : (K (F := F)).nCore 0 = 2 := rfl
theorem nSub_zero : (K (F := F)).nSub 0 = 16 := rfl

/-- What the launch passes at each handshake. -/
def P : (K (F := F)).Pay (nD := nD) (Val := Elt F) (Name := ℕ) (U := UU) where
  st := fun q d c => match q with | 0 => corePay m R U d (m (oLoc d)) (Fin.cast nCore_zero c)
  dn := fun q d c => match q with | 0 => corePay m R U d (outD m R U d) (Fin.cast nCore_zero c)
  go := fun q d c i => match q with | 0 => taskPay m R U d (m (oLoc d)) (Fin.cast nCore_zero c) (Fin.cast nSub_zero i)
  td := fun q d c i => match q with | 0 => taskPay m R U d (outD m R U d) (Fin.cast nCore_zero c) (Fin.cast nSub_zero i)
  x := fun _ _ => iprop(emp)

instance P_storable : (P m R U).IsStorable where
  st q d c := by match q with | 0 => exact corePay_storable m R U d _ _
  dn q d c := by match q with | 0 => exact corePay_storable m R U d _ _
  go q d c i := by match q with | 0 => exact taskPay_storable m R U d _ _ _
  td q d c i := by match q with | 0 => exact taskPay_storable m R U d _ _ _

/-! ## One subcore's task -/

theorem defs₀_vector (c : Fin τ.nSC) (s : Fin τ.nSub) :
    defs₀ (F := F) (.scVector c s) 1 ()
      = SparseCore.onTile hcore1 hsub1 (fun c s => cc1__sc (coordsV c s)
          (Memref.whole main_arg0_scv) (Memref.isWhole_whole _) (Memref.whole main_v1_scv) (Memref.isWhole_whole _) (Memref.whole main_v2_scv) (Memref.isWhole_whole _)
          (Memref.whole main_v3_scv) (Memref.isWhole_whole _) (Memref.whole cc1_scratch0) (Memref.isWhole_whole _) (Memref.whole cc1_scratch1) (Memref.isWhole_whole _)
          (Memref.whole cc1_scratch2) (Memref.isWhole_whole _) (Memref.whole cc1_scratch3) (Memref.isWhole_whole _) (Memref.whole cc1_scratch4) (Memref.isWhole_whole _)
          cc1_scratch5 cc1_scratch6 cc1_scratch7 cc1_scratch8 cc1_scoped0 cc1_scoped1 cc1_scoped2 cc1_scoped3 cc1_scoped4 cc1_scoped5 cc1_scoped6 cc1_scoped7 cc1_scoped8 cc1_scoped9) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m R U) v₀ 0 := by
  intro d c i O W hO _ _
  simp only [show (P m R U).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (R d) (U d) (m (xLoc d)) (m (oLoc d)) (subq (Fin.cast nCore_zero c) (Fin.cast nSub_zero i)) O W hO).trans
    (wp_mono frame _ _ fun _ => obl_post)

/-! ## A core's part splits among its subcores -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem corePay_eq (d : Dev nD) (f : S100000x128.Idx → Elt F .f32) (c : Fin 2) :
    (corePay m R U d f c : sProp 𝕄) = bigSep Finset.univ fun s : Fin 16 => taskPay m R U d f c s := by
  unfold taskPay tilePay corePay
  rw [bigSep_sep', bigSep_sep', bigSep_sep',
    pointsTo_deal (ℓ := xLoc d) Finset.univ ⟨(0 : Fin 16), Finset.mem_univ _⟩ (coreq c),
    pointsTo_deal (ℓ := rLoc d) Finset.univ ⟨(0 : Fin 16), Finset.mem_univ _⟩ (coreq c),
    pointsTo_deal (ℓ := uLoc d) Finset.univ ⟨(0 : Fin 16), Finset.mem_univ _⟩ (coreq c)]

theorem vecSplit : (K (F := F)).VecSplit' (P m R U) 0 := by
  intro d c
  show (corePay m R U d (m (oLoc d)) (Fin.cast nCore_zero c) : sProp 𝕄)
    ⊢ |={Set.univ}=> iprop((bigSep Finset.univ fun i : Fin ((K (F := F)).nSub 0) => taskPay m R U d (m (oLoc d)) (Fin.cast nCore_zero c) (Fin.cast nSub_zero i))
      ∗ ((bigSep Finset.univ fun i : Fin ((K (F := F)).nSub 0) => taskPay m R U d (outD m R U d) (Fin.cast nCore_zero c) (Fin.cast nSub_zero i))
        -∗ corePay m R U d (outD m R U d) (Fin.cast nCore_zero c)))
  rw [bigSep_tasks (F := F) fun s => taskPay m R U d (m (oLoc d)) (Fin.cast nCore_zero c) s,
    bigSep_tasks (F := F) fun s => taskPay m R U d (outD m R U d) (Fin.cast nCore_zero c) s, corePay_eq, corePay_eq]
  iintro H
  imodintro
  isplitl [H]; · iexact H
  iintro H; iexact H

/-! ## The arrays split among the cores -/

/-- The blocks of the result are apart; -/
theorem tiles_disjoint : ∀ a ∈ (Finset.univ : Finset ((Fin 2 × Fin 16) × Fin 5)), ∀ b ∈ (Finset.univ : Finset ((Fin 2 × Fin 16) × Fin 5)), a ≠ b →
    Disjoint (tileSet (coordsV a.1.1 a.1.2) a.2) (tileSet (coordsV b.1.1 b.1.2) b.2) := by
  rintro ⟨⟨c, s⟩, r⟩ - ⟨⟨c', s'⟩, r'⟩ - hne
  rw [Finset.disjoint_left]
  intro y hy hy'
  rw [tileSet, ← Rect.map_emb_univ] at hy hy'
  obtain ⟨x, -, rfl⟩ := Finset.mem_map.mp hy
  obtain ⟨x', -, e⟩ := Finset.mem_map.mp hy'
  have h0 := emb_rect2 (coordsV c s) r x 0
  have h1 := emb_rect2 (coordsV c s) r x 1
  have h0' := emb_rect2 (coordsV c' s') r' x' 0
  have h1' := emb_rect2 (coordsV c' s') r' x' 1
  rw [e] at h0' h1'
  have l0 : (x 0).val < 10000 := (x 0).isLt
  have l1 : (x 1).val < 8 := (x 1).isLt
  have l0' : (x' 0).val < 10000 := (x' 0).isLt
  have l1' : (x' 1).val < 8 := (x' 1).isLt
  simp only [Matrix.cons_val_zero, Matrix.cons_val_one, coordsV] at h0 h1 h0' h1'
  apply hne
  have n : tidN (coordsV c s) r.val = 2 * s.val + c.val + 32 * r.val := rfl
  have n' : tidN (coordsV c' s') r'.val = 2 * s'.val + c'.val + 32 * r'.val := rfl
  have := c.isLt; have := c'.isLt; have := s.isLt; have := s'.isLt
  have : c.val = c'.val ∧ s.val = s'.val ∧ r.val = r'.val := by omega
  exact Prod.ext (Prod.ext (Fin.ext this.1) (Fin.ext this.2.1)) (Fin.ext this.2.2)

/-- together they are all of it. -/
theorem tiles_cover : (Finset.univ : Finset ((Fin 2 × Fin 16) × Fin 5)).biUnion (fun a => tileSet (coordsV a.1.1 a.1.2) a.2) = Finset.univ := by
  ext y
  simp only [Finset.mem_biUnion, Finset.mem_univ, true_and, iff_true]
  have l0 : (y 0).val < 100000 := (y 0).isLt
  have l1 : (y 1).val < 128 := (y 1).isLt
  let t := 16 * ((y 0).val / 10000) + (y 1).val / 8
  have ht : t < 160 := by omega
  refine ⟨((⟨t % 32 % 2, by omega⟩, ⟨t % 32 / 2, by omega⟩), ⟨t / 32, by omega⟩), ?_⟩
  rw [tileSet, ← Rect.map_emb_univ]
  refine Finset.mem_map.mpr ⟨within y, Finset.mem_univ _, ?_⟩
  funext a
  apply Fin.ext
  rw [emb_rect2]
  match a with
  | ⟨0, _⟩ =>
    show 10000 * ((2 * (t % 32 / 2) + t % 32 % 2 + 32 * (t / 32)) / 16) + (y 0).val % 10000 = (y 0).val
    omega
  | ⟨1, _⟩ =>
    show 8 * ((2 * (t % 32 / 2) + t % 32 % 2 + 32 * (t / 32)) % 16) + (y 1).val % 8 = (y 1).val
    omega

/-- The four arrays whole are the two cores' parts. -/
theorem cores_eq (d : Dev nD) (f : S100000x128.Idx → Elt F .f32) :
    (iprop((xLoc d ↦{fullShare} m (xLoc d)) ∗ (rLoc d ↦{fullShare} R d) ∗ (uLoc d ↦{fullShare} U d) ∗ (oLoc d ↦{fullShare} f)) : sProp 𝕄)
      = bigSep Finset.univ fun c : Fin ((K (F := F)).nCore 0) => corePay m R U d f (Fin.cast nCore_zero c) := by
  rw [bigSep_cores (F := F) fun c => corePay m R U d f c]
  unfold corePay
  rw [bigSep_sep', bigSep_sep', bigSep_sep',
    ← pointsTo_deal (ℓ := xLoc d) Finset.univ ⟨(0 : Fin 2), Finset.mem_univ _⟩ fullShare,
    ← pointsTo_deal (ℓ := rLoc d) Finset.univ ⟨(0 : Fin 2), Finset.mem_univ _⟩ fullShare,
    ← pointsTo_deal (ℓ := uLoc d) Finset.univ ⟨(0 : Fin 2), Finset.mem_univ _⟩ fullShare]
  have e := (congrArg (fun I => (oLoc d ↦[I]{fullShare} f : sProp 𝕄)) tiles_cover).symm.trans
    (pointsTo_biUnion Finset.univ (ℓ := oLoc d) (fun a : (Fin 2 × Fin 16) × Fin 5 => tileSet (coordsV a.1.1 a.1.2) a.2) tiles_disjoint)
  rw [bigSep_univ_prod, bigSep_univ_prod] at e
  rw [e]

end Cert.Proof.Launch

end
-- ==== Proof.Prep.lean ====
/-
  The TensorCore call in front of the SparseCore one: it transposes the row numbers and the values, a block of 2048 rows at a time.
-/
module

public import proofs.«01_k».proof.Proof.Split
public import proofs.«01_k».proof.Proof.Gen.KernelIdeal.Points
public import proofs.«01_k».proof.Proof.Gen.KernelIdeal.Skeleton
public import Idealize.ShloMosaic.Lib.Pipeline.RegionsLoop
public import Idealize.ShloMosaic.Lib.Pipeline.ValueKit.Geometry
public import Idealize.ShloMosaic.Lib.Tactic

@[expose] public section

noncomputable section

namespace Cert.Proof.Launch

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)
open Cert.Proof.Run

variable {F : FTy → Type} [FloatOps F]

local notation "𝕄" => MT nD τ sig (HIx 1) (Elt F) ℕ UU ℕ

/-! ## A matrix loaded or stored whole -/

section Whole

variable {α : Type} (c : Dev nD) {e : EltTy} {a b : ℕ}

/-- The rectangle of a whole matrix moves no index. -/
theorem emb_all (inb) (x : (⟨2, ![a, b]⟩ : Shape).Idx) :
    (Rect.unit (s := ⟨2, ![a, b]⟩) ![0, 0] (⟨2, ![a, b]⟩ : Shape).size inb).emb x = x := by
  funext k
  refine Fin.ext ?_
  rw [Rect.emb_apply]
  match k with
  | ⟨0, _⟩ => show 0 + 1 * _ = _; omega
  | ⟨1, _⟩ => show 0 + 1 * _ = _; omega

theorem wp_load_all {Q : α → sProp 𝕄} (m : Memref sig .tc .vmem ⟨2, ![a, b]⟩ e) (X : (⟨2, ![a, b]⟩ : Shape).Idx → Elt F e) (inb)
    (hl : m.view.LoadsAt (Rect.unit (s := ⟨2, ![a, b]⟩) ![0, 0] (⟨2, ![a, b]⟩ : Shape).size inb).toLoadRect)
    (k : ((⟨2, ![a, b]⟩ : Shape).Idx → Elt F e) → Prog (TpuEff nD τ sig (Elt F) Λ₀ .tc) α) :
    (owns (c : Thread nD τ) m fullShare X : sProp 𝕄)
      ⊢ iprop((owns (c : Thread nD τ) m fullShare X -∗ wp frame (wpE defs₀ 𝒱₀ (c : Thread nD τ) none) Set.univ (k X) Q)
        -∗ wp frame (wpE defs₀ 𝒱₀ (c : Thread nD τ) none) Set.univ
            (.op (.load m (Rect.unit (s := ⟨2, ![a, b]⟩) ![0, 0] (⟨2, ![a, b]⟩ : Shape).size inb).toLoadRect hl) k) Q) := by
  unfold owns
  iintro ⟨%f, %hf, Hf⟩ Hk
  iapply (wp_load_rect (defs := defs₀) 𝒱₀ (c : Thread nD τ) none Set.univ (Q := Q) (m := m)
    (r := Rect.unit (s := ⟨2, ![a, b]⟩) ![0, 0] (⟨2, ![a, b]⟩ : Shape).size inb) (hl := hl) (k := k)
    (S := m.view.set) (q := fullShare) (f := f) (View.set_slice_subset _ _)) $$ Hf
  iintro Hf
  have hr : (m.access (Rect.unit (s := ⟨2, ![a, b]⟩) ![0, 0] (⟨2, ![a, b]⟩ : Shape).size inb)).read (Elt F) f = X := by
    subst hf; funext x
    show m.view.read (Elt F) f ((Rect.unit (s := ⟨2, ![a, b]⟩) ![0, 0] (⟨2, ![a, b]⟩ : Shape).size inb).emb x) = _
    rw [emb_all]
  rw [hr]
  iapply Hk
  iexists f; isplitr
  · ipureintro; exact hf
  · iexact Hf

theorem wp_store_all {Q : α → sProp 𝕄} (m : Memref sig .tc .vmem ⟨2, ![a, b]⟩ e) (X Y : (⟨2, ![a, b]⟩ : Shape).Idx → Elt F e) (inb) (hx) (hm)
    (k : PUnit → Prog (TpuEff nD τ sig (Elt F) Λ₀ .tc) α) :
    (owns (c : Thread nD τ) m fullShare X : sProp 𝕄)
      ⊢ iprop((owns (c : Thread nD τ) m fullShare Y -∗ wp frame (wpE defs₀ 𝒱₀ (c : Thread nD τ) none) Set.univ (k ⟨⟩) Q)
        -∗ wp frame (wpE defs₀ 𝒱₀ (c : Thread nD τ) none) Set.univ
            (.op (.store m (Rect.unit (s := ⟨2, ![a, b]⟩) ![0, 0] (⟨2, ![a, b]⟩ : Shape).size inb) Y Finset.univ hx hm) k) Q) := by
  unfold owns
  iintro ⟨%f, %hf, Hf⟩ Hk
  iapply (wp_store (defs := defs₀) 𝒱₀ (c : Thread nD τ) none Set.univ (Q := Q) (m := m)
    (r := Rect.unit (s := ⟨2, ![a, b]⟩) ![0, 0] (⟨2, ![a, b]⟩ : Shape).size inb) (hx := hx) (hm := hm) (k := k)
    (S := m.view.set) (f := f) (by rw [View.setOn_univ]; exact View.set_slice_subset _ _)) $$ Hf
  iintro Hf
  iapply Hk
  iexists _; isplitr
  rotate_left
  · iexact Hf
  · ipureintro
    funext x
    have h := congrFun (View.read_write_univ (v := m.access (Rect.unit (s := ⟨2, ![a, b]⟩) ![0, 0] (⟨2, ![a, b]⟩ : Shape).size inb)) f Y) x
    rw [← h]
    show m.view.read (Elt F) _ x = m.view.read (Elt F) _ ((Rect.unit (s := ⟨2, ![a, b]⟩) ![0, 0] (⟨2, ![a, b]⟩ : Shape).size inb).emb x)
    rw [emb_all]

end Whole

/-! ## The body -/

theorem wp_prep (c : Dev nD) (i : grid0.Coords) (M1 : Memref sig .tc .vmem S2048x128 .i32) (h1) (M2 : Memref sig .tc .vmem S2048x128 .f32) (h2)
    (M3 : Memref sig .tc .vmem S128x2048 .i32) (h3) (M4 : Memref sig .tc .vmem S128x2048 .f32) (h4)
    (X1 : S2048x128.Idx → Elt F .i32) (X2 : S2048x128.Idx → Elt F .f32) (X3 : S128x2048.Idx → Elt F .i32) (X4 : S128x2048.Idx → Elt F .f32)
    (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4
        ∗ ((owns (c : Thread nD τ) M1 fullShare X1 ∗ owns (c : Thread nD τ) M2 fullShare X2 ∗ owns (c : Thread nD τ) M3 fullShare (k0_pay1 (F := F) X1)
            ∗ owns (c : Thread nD τ) M4 fullShare (k0_pay2 X2)) -∗ Q ⟨⟩))
      ⊢ wp frame (wpE defs₀ 𝒱₀ (c : Thread nD τ) none) Set.univ (cc0__prep_body i M1 h1 M2 h2 M3 h3 M4 h4) Q := by
  rw [cc0__prep_body_eq_skeleton]
  unfold cc0__prep_body_skel
  simp only [Prog.lift, Prog.bind_op, Prog.bind_ret]
  iintro ⟨H1, H2, H3, H4, Hk⟩
  iapply (wp_load_all c M1 X1 _ _ _) $$ H1
  iintro H1
  iapply (wp_load_all c M3 X3 _ _ _) $$ H3
  iintro H3
  iapply (wp_store_all c M3 X3 (k0_pay1 (F := F) X1) _ _ _ _) $$ H3
  iintro H3
  iapply (wp_load_all c M2 X2 _ _ _) $$ H2
  iintro H2
  iapply (wp_load_all c M4 X4 _ _ _) $$ H4
  iintro H4
  iapply (wp_store_all c M4 X4 (k0_pay2 X2) _ _ _ _) $$ H4
  iintro H4
  sl_step
  iapply Hk
  isplitl [H1]; · iexact H1
  isplitl [H2]; · iexact H2
  isplitl [H3]; · iexact H3
  iexact H4

/-! ## The call's proof data, from contents `V` of the arrays -/

variable (V : (c : Dev nD) → (b : Ref sig .tc) → Buf (Elt F) ((c : Thread nD τ).loc b))

/-- The block of row numbers a grid point reads, -/
abbrev stg0 (c : Dev nD) (t : Fin cfg0.N) : (cfg0.win 0).block.Idx → Elt F (cfg0.win 0).elt := ((cfg0.win 0).blk t).view.read (Elt F) (V c main_arg1)
/-- and the block of values. -/
abbrev stg1 (c : Dev nD) (t : Fin cfg0.N) : (cfg0.win 1).block.Idx → Elt F (cfg0.win 1).elt := ((cfg0.win 1).blk t).view.read (Elt F) (V c main_arg2)

/-- Each block read as it was, each block written the transpose of the one read; the core owes its starts throughout. -/
def dat (c : Dev nD) : Dat τ (Elt F) (HIx 1) ℕ UU ℕ cfg0 c where
  A w := V c (Pipeline.arrRef spec0 w)
  after w t := match w with
    | ⟨0, _⟩ => stg0 V c t
    | ⟨1, _⟩ => stg1 V c t
    | ⟨2, _⟩ => k0_pay1 (F := F) (stg0 V c t)
    | ⟨3, _⟩ => k0_pay2 (stg1 V c t)
  Φ _ := Pipeline.scopedRest (Ix := HIx 1) (Name := ℕ) (U := UU) (Lvl := ℕ) (Val := Elt F) spec0 c
  q _ := fullShare
  owed _ := (K (F := F)).Otc c 0
  recorded _ := {p | (K (F := F)).lev ((c : Thread nD τ), p.1) p.2 ≤ 0}

def pdats (adm : (p : Fin 1) → (pcfgs (F := F) p).Adm) :
    (p : Fin 1) → (c : Dev nD) → Dat τ (Elt F) (HIx 1) ℕ UU ℕ (Pipeline.pin (pcfgs (F := F)) adm p) c
  | ⟨0, _⟩ => fun c => dat V c

theorem before0 (c : Dev nD) (t : Fin cfg0.N) (d) : (dat V c).before 0 t d = stg0 V c t := by
  unfold Dat.before; rw [if_pos (fetch0_0 t)]; rfl

theorem before1 (c : Dev nD) (t : Fin cfg0.N) (d) : (dat V c).before 1 t d = stg1 V c t := by
  unfold Dat.before; rw [if_pos (fetch0_1 t)]; rfl

theorem body_obligation (c : Dev nD) : BodyObligation (dat V c) (defs₀ (F := F)) 𝒱₀ none Set.univ := fun t => by
  rw [bigSep_W0, bigSep_W0]
  rw [show (dat V c).Φ t.succ = (dat V c).Φ t.castSucc from rfl, show (dat V c).owesAt none t.succ = (dat V c).owesAt none t.castSucc from rfl]
  iintro ⟨HΦ, Howes, ⟨%d0, H0⟩, ⟨%d1, H1⟩, ⟨%d2, H2⟩, ⟨%d3, H3⟩⟩
  rw [before0, before1]
  iapply (wp_prep c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast nbuf0_2)) (win0_3.stage (cfg0.slots t 3))
    (hstage0_3 ((cfg0.slots t 3).cast nbuf0_3)) (stg0 V c t) (stg1 V c t) _ _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## The arrays after the call -/

/-- A matrix of 16384 rows of 128, turned. -/
def turned {β : Type} (A : S16384x128.Idx → β) : S128x16384.Idx → β := fun y => A fun | ⟨0, _⟩ => y 1 | ⟨1, _⟩ => y 0

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, t.val] := by decide +kernel
theorem index3 : ∀ t : Fin grid0.N, win0_3.index t = ![0, t.val] := by decide +kernel

/-- The source of an element of a transposed block. -/
def back (y : S128x2048.Idx) : S2048x128.Idx := fun | ⟨0, _⟩ => y 1 | ⟨1, _⟩ => y 0

theorem pay1_apply (X : S2048x128.Idx → Elt F .i32) (y : S128x2048.Idx) : k0_pay1 (F := F) X y = X (back y) :=
  transpose_apply _ _ _ y (back y) fun b => match b with | ⟨0, _⟩ => rfl | ⟨1, _⟩ => rfl

theorem pay2_apply (X : S2048x128.Idx → Elt F .f32) (y : S128x2048.Idx) : k0_pay2 (F := F) X y = X (back y) :=
  transpose_apply _ _ _ y (back y) fun b => match b with | ⟨0, _⟩ => rfl | ⟨1, _⟩ => rfl

theorem final2 (c : Dev nD) : (dat V c).arrAt 2 cfg0.N = turned (V c main_arg1) := by
  refine (dat V c).arrAt_eq_of_covers 2 _ (by decide +kernel) fun t hf y => ?_
  blk_simp
  show k0_pay1 (F := F) (stg0 V c t) y = _
  rw [pay1_apply]
  have r0 : (((win0_0.blk t).view.emb (back y)) 0).val = t.val * 2048 + (y 1).val := by blk_simp [index0]; rfl
  have r1 : (((win0_0.blk t).view.emb (back y)) 1).val = 0 * 128 + (y 0).val := by blk_simp [index0]; rfl
  have w0 : (((win0_2.blk t).view.emb y) 0).val = 0 * 128 + (y 0).val := by blk_simp [index2]
  have w1 : (((win0_2.blk t).view.emb y) 1).val = t.val * 2048 + (y 1).val := by blk_simp [index2]
  exact congrArg (V c main_arg1) (funext fun a => Fin.ext (match a with
    | ⟨0, _⟩ => r0.trans w1.symm
    | ⟨1, _⟩ => r1.trans w0.symm))

theorem final3 (c : Dev nD) : (dat V c).arrAt 3 cfg0.N = turned (V c main_arg2) := by
  refine (dat V c).arrAt_eq_of_covers 3 _ (by decide +kernel) fun t hf y => ?_
  blk_simp
  show k0_pay2 (stg1 V c t) y = _
  rw [pay2_apply]
  have r0 : (((win0_1.blk t).view.emb (back y)) 0).val = t.val * 2048 + (y 1).val := by blk_simp [index1]; rfl
  have r1 : (((win0_1.blk t).view.emb (back y)) 1).val = 0 * 128 + (y 0).val := by blk_simp [index1]; rfl
  have w0 : (((win0_3.blk t).view.emb y) 0).val = 0 * 128 + (y 0).val := by blk_simp [index3]
  have w1 : (((win0_3.blk t).view.emb y) 1).val = t.val * 2048 + (y 1).val := by blk_simp [index3]
  exact congrArg (V c main_arg2) (funext fun a => Fin.ext (match a with
    | ⟨0, _⟩ => r0.trans w1.symm
    | ⟨1, _⟩ => r1.trans w0.symm))

/-! ## The call over the core's state -/

variable (adm : (p : Fin 1) → (pcfgs (F := F) p).Adm)
  (Vp : (c : Dev nD) → (b : Ref sig .tc) → Buf (Elt F) ((c : Thread nD τ).loc b))

/-- What the core owes, its waits so far all at level zero. -/
def dues (c : Dev nD) : sProp 𝕄 :=
  iprop(∃ W, ⌜(K (F := F)).WBelow (c : Thread nD τ) W 0⌝ ∗ owes (c : Thread nD τ) ((K (F := F)).Otc c 0) W)

theorem otc_above (c : Dev nD) (g : GSem nD τ sig) (ι : HIx 1) (h : 0 < (K (F := F)).Otc c 0 g ι) :
    ι ∈ (K (F := F)).L (N := 1) g ∧ 0 < (K (F := F)).lev g ι := by
  have := SparseCore.Cfg.lev_of_Otc_pos (K := K (F := F)) h
  exact ⟨Finset.mem_univ _, by omega⟩

set_option backward.isDefEq.respectTransparency.types false in
/-- The call: entered from any contents of the arrays, left with the two transposes written. -/
def prepSeg (hVp2 : ∀ c, Vp c main_v0_0 = turned (V c main_arg1)) (hVp3 : ∀ c, Vp c main_v0_1 = turned (V c main_arg2))
    (hVp : ∀ c (b : Ref sig .tc), b ≠ main_v0_0 → b ≠ main_v0_1 → Vp c b = V c b) :
    Pipeline.RegionSeg (pcfgs (F := F)) adm (pdats V adm) none defs₀ 𝒱₀ ((K (F := F)).L (N := 1)) (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_of_cut (Pipeline.pin (pcfgs (F := F)) adm) (pdats V adm) none 0 c 0 ((K (F := F)).Otc c 0) (fun _ => rfl)
    (fun _ _ => Finset.mem_univ _) (fun _ _ => le_rfl) (otc_above c)
  pre c := iprop(unscopedBufs c (V c) ∗ dues (F := F) c)
  post c := iprop(unscopedBufs c (Vp c) ∗ dues (F := F) c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) (launch0).win (launch0).arr_whole c
      ((pdats V adm 0 c).share_full fun _ => rfl) (V c) fun _ => rfl
    unfold dues
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest spec0 c from rfl]
    iintro ⟨-, -, Hr⟩; iexact Hr
  hout c := by
    rw [Pipeline.ownSems0_none, show (pdats V adm 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hVp c main_arg1 (by decide) (by decide)).symm
        · exact ((pdats V adm 0 c).arrAt_in 1 rfl _).trans (hVp c main_arg2 (by decide) (by decide)).symm
        · exact (final2 V c).trans (hVp2 c).symm
        · exact (final3 V c).trans (hVp3 c).symm)
      (fun b hb => hVp c b (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold dues Pipeline.Dat.owesAt Pipeline.owesWithin
    icases HO with ⟨%W, %hW, HO⟩; iexists W; isplitr
    · ipureintro
      intro p hp
      rcases hW hp with h | ⟨w, s, rfl⟩
      · exact h
      · exact le_rfl
    iexact HO

end Cert.Proof.Launch

end
-- ==== Proof.Main.lean ====
/-
  The whole program: the transposing call, the two reshapes, the SparseCore call; what every run leaves.
-/
module

public import proofs.«01_k».proof.Proof.Prep
public import Idealize.ShloMosaic.Lib.SparseCore.Quiescent
public import Idealize.ShloMosaic.Lib.StableHlo.Run
public import Idealize.ShloMosaic.Lib.Pipeline.Kit

@[expose] public section

noncomputable section

namespace Cert.Proof.Launch

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.Pipeline (cellsGhost toksInit)
open Cert.Proof.Run

variable {F : FTy → Type} [FloatOps F]

local notation "𝕄" => MT nD τ sig (HIx 1) (Elt F) ℕ UU ℕ

/-- The transposing call's part of the ghost state. -/
abbrev EP : Emb (UR sig nD τ) (MT nD τ sig (HIx 1) (Elt F) ℕ UU ℕ) :=
  (Emb.inl : Emb (UR sig nD τ) (UR sig nD τ × Counters)).trans embR

abbrev adm : (p : Fin 1) → (pcfgs (F := F) p).Adm := fun p => (cfgs p).toPCfg_adm

abbrev calls := Pipeline.pin (pcfgs (F := F)) adm

/-! ## The arrays of the program -/

abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev b0 : DevRef τ sig := Proc.devRef .tc (main_v0_0 : Ref sig .tc)
abbrev b1 : DevRef τ sig := Proc.devRef .tc (main_v0_1 : Ref sig .tc)
abbrev c1 : DevRef τ sig := Proc.devRef .tc (main_v1 : Ref sig .tc)
abbrev c2 : DevRef τ sig := Proc.devRef .tc (main_v2 : Ref sig .tc)
abbrev c3 : DevRef τ sig := Proc.devRef .tc (main_v3 : Ref sig .tc)

abbrev iLoc (d : Dev nD) := (SparseCore.T d : Thread nD τ).loc main_arg1
abbrev sLoc (d : Dev nD) := (SparseCore.T d : Thread nD τ).loc main_arg2

def arrs : Finset (DevRef τ sig) := {a0, a1, a2, b0, b1, c1, c2, c3}

theorem held_arrs (d : Dev nD) (W : Valuation τ sig (Elt F)) :
    (held (T d) arrs W : sProp 𝕄) = iprop((xLoc d ↦{fullShare} W a0) ∗ (iLoc d ↦{fullShare} W a1) ∗ (sLoc d ↦{fullShare} W a2)
      ∗ ((SparseCore.T d).loc main_v0_0 ↦{fullShare} W b0) ∗ ((SparseCore.T d).loc main_v0_1 ↦{fullShare} W b1)
      ∗ (rLoc d ↦{fullShare} W c1) ∗ (uLoc d ↦{fullShare} W c2) ∗ (oLoc d ↦{fullShare} W c3)) := by
  unfold held arrs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_arrs (d : Dev nD) (W : Valuation τ sig (Elt F)) :
    (unscopedBufs d (fun b => W (Proc.devRef .tc b)) : sProp 𝕄) = held (T d) arrs W := by
  rw [held_arrs]
  unfold unscopedBufs
  rw [show (Finset.univ.filter fun b : Ref sig .tc => ¬ b.isScoped)
      = {main_arg0, main_arg1, main_arg2, main_v0_0, main_v0_1, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (m : (ℓ : Loc nD τ sig) → Buf (Elt F) ℓ) (ρ : Dev nD → PrngReg)

/-- The row numbers as the SparseCores read them: the index matrix turned and flattened. -/
def rows (d : Dev nD) : S2097152.Idx → BitVec 32 := shapeCast S2097152 (turned (m (iLoc d))) shapeCasts_S128x16384_S2097152
/-- The values likewise. -/
def vals (d : Dev nD) : S2097152.Idx → Elt F .f32 := shapeCast S2097152 (turned (m (sLoc d))) shapeCasts_S128x16384_S2097152

def V0 (d : Dev nD) : Valuation τ sig (Elt F) := fun b => m (d, b)
def V1 (d : Dev nD) : Valuation τ sig (Elt F) :=
  Function.update (Function.update (V0 m d) b0 (turned (m (iLoc d)))) b1 (turned (m (sLoc d)))
abbrev op1 : HloOp τ sig (Elt F) := StableHlo.reshape main_v0_0 main_v1 (rfl : (.i32 : EltTy) = .i32) shapeCasts_S128x16384_S2097152
abbrev op2 : HloOp τ sig (Elt F) := StableHlo.reshape main_v0_1 main_v2 (rfl : (.f32 : EltTy) = .f32) shapeCasts_S128x16384_S2097152
def V3 (d : Dev nD) : Valuation τ sig (Elt F) := (op2 (F := F)).result ((op1 (F := F)).result (V1 m d))

theorem V1_b0 (d : Dev nD) : V1 m d b0 = turned (m (iLoc d)) := by
  unfold V1; rw [Function.update_of_ne (show b0 ≠ b1 by decide), Function.update_self]
theorem V1_b1 (d : Dev nD) : V1 m d b1 = turned (m (sLoc d)) := by
  unfold V1; rw [Function.update_self]
theorem V1_ne (d : Dev nD) (b : Ref sig .tc) (h0 : b ≠ main_v0_0) (h1 : b ≠ main_v0_1) : V1 m d (Proc.devRef .tc b) = V0 m d (Proc.devRef .tc b) := by
  unfold V1
  rw [Function.update_of_ne (fun e => h1 (Proc.devRef_injective _ e)), Function.update_of_ne (fun e => h0 (Proc.devRef_injective _ e))]

theorem V3_ne (d : Dev nD) (b : Ref sig .tc) (h0 : b ≠ main_v0_0) (h1 : b ≠ main_v0_1) (h2 : b ≠ main_v1) (h3 : b ≠ main_v2) :
    V3 m d (Proc.devRef .tc b) = m ((SparseCore.T d).loc b) := by
  unfold V3
  rw [StableHlo.reshape_result_ne _ _ _ _ _ _ _ h3, StableHlo.reshape_result_ne _ _ _ _ _ _ _ h2, V1_ne m d b h0 h1]
  rfl
theorem V3_c1 (d : Dev nD) : V3 m d c1 = rows m d := by
  unfold V3
  rw [StableHlo.reshape_result_ne _ _ _ _ _ _ _ (show main_v1 ≠ main_v2 by decide), StableHlo.reshape_result, V1_b0]
  rfl
theorem V3_c2 (d : Dev nD) : V3 m d c2 = vals m d := by
  unfold V3
  rw [StableHlo.reshape_result, StableHlo.reshape_result_ne _ _ _ _ _ _ _ (show main_v0_1 ≠ main_v1 by decide), V1_b1]
  rfl

/-- What the SparseCore call finds. -/
theorem held_V3 (d : Dev nD) :
    (held (T d) arrs (V3 m d) : sProp 𝕄) = iprop((xLoc d ↦{fullShare} m (xLoc d)) ∗ (iLoc d ↦{fullShare} m (iLoc d)) ∗ (sLoc d ↦{fullShare} m (sLoc d))
      ∗ ((SparseCore.T d).loc main_v0_0 ↦{fullShare} V3 m d b0) ∗ ((SparseCore.T d).loc main_v0_1 ↦{fullShare} V3 m d b1)
      ∗ (rLoc d ↦{fullShare} rows m d) ∗ (uLoc d ↦{fullShare} vals m d) ∗ (oLoc d ↦{fullShare} m (oLoc d))) := by
  rw [held_arrs, V3_ne m d main_arg0 (by decide) (by decide) (by decide) (by decide), V3_ne m d main_arg1 (by decide) (by decide) (by decide) (by decide),
    V3_ne m d main_arg2 (by decide) (by decide) (by decide) (by decide), V3_ne m d main_v3 (by decide) (by decide) (by decide) (by decide), V3_c1, V3_c2]

theorem op1_arrs : (op1 (F := F)).bufs ⊆ arrs := show ({b0, c1} : Finset (DevRef τ sig)) ⊆ arrs by decide
theorem op2_arrs : (op2 (F := F)).bufs ⊆ arrs := show ({b1, c2} : Finset (DevRef τ sig)) ⊆ arrs by decide

/-! ## The transposing call in the program -/

def seg := prepSeg (fun d b => V0 m d (Proc.devRef .tc b)) adm (fun d b => V1 m d (Proc.devRef .tc b)) (V1_b0 m) (V1_b1 m) (V1_ne m)

/-- The ghost state it starts from. -/
def G (d : Dev nD) : sProp 𝕄 := iprop(cellsGhost (calls (F := F)) EP 0 d ∗ toksInit (calls (F := F)) EP 0 d)

theorem wp_prepCall (d : Dev nD) (Q : PUnit → sProp 𝕄) :
    iprop(((boundary (d : Thread nD τ) ∗ held (T d) arrs (V1 m d) ∗ dues (F := F) d) -∗ Q ⟨⟩)
        ∗ boundary (d : Thread nD τ) ∗ (held (T d) arrs (V0 m d) ∗ dues (F := F) d) ∗ levAts ((K (F := F)).L (N := 1)) (K (F := F)).lev ∗ G (F := F) d)
      ⊢ wp frame (wpE ((K (F := F)).defs (D (F := F))) 𝒱 (SparseCore.T d) none) Set.univ
          (Prog.lift (.customCall (SparseCore.inner (Pipeline.entry 0)) ())) Q := by
  have hl := (K (F := F)).wp_liftProg (D (F := F)) 𝒱 (SparseCore.T d) Set.univ none
    (.op (.customCall (Pipeline.entry 0) ()) .ret : Prog (TpuEff nD τ sig (Elt F) (ΛP (F := F)) .tc) PUnit) Q
  have h := Pipeline.RegionSeg.wp (pcfgs (F := F)) adm (pdats (fun d b => V0 m d (Proc.devRef .tc b)) adm) none cellOf_inj EP defs₀ 𝒱₀ _ _
    (seg m) d none (fun _ h => nomatch h) .ret Q
  rw [show (seg m).pre d = iprop((unscopedBufs d fun b => V0 m d (Proc.devRef .tc b)) ∗ dues (F := F) d) from rfl,
    show (seg m).post d = iprop((unscopedBufs d fun b => V1 m d (Proc.devRef .tc b)) ∗ dues (F := F) d) from rfl] at h
  rw [← unscoped_arrs, ← unscoped_arrs]
  unfold G
  iintro ⟨Hk, Hb, Hpre, Hl, Hc, Ht⟩
  iapply hl
  iapply h
  isplitl [Hk]
  · iintro H
    rw [wp_ret]
    imodintro
    iapply Hk
    iexact H
  isplitl [Hb]; · iexact Hb
  isplitl [Hpre]; · iexact Hpre
  isplitl [Hl]; · iexact Hl
  isplitl [Hc]; · iexact Hc
  iexact Ht

/-! ## The core's state -/

/-- Before any call the core's state is what it owes beside the rest of its side of the handshakes. -/
theorem tcSt_zero (d : Dev nD) : ∃ R : sProp 𝕄, ((K (F := F)).tcSt EH d 0 : sProp 𝕄) = iprop(dues (F := F) d ∗ R) := by
  unfold SparseCore.Cfg.tcSt
  exact ⟨_, rfl⟩

/-! ## The program on the core -/

/-- What the program leaves the claim: the arguments as they were and the result. -/
abbrev FIN (d : Dev nD) : sProp 𝕄 :=
  iprop((xLoc d ↦{fullShare} m (xLoc d)) ∗ (iLoc d ↦{fullShare} m (iLoc d)) ∗ (sLoc d ↦{fullShare} m (sLoc d)) ∗ (oLoc d ↦{fullShare} outD m (rows m) (vals m) d))

theorem st0_eq (d : Dev nD) : (bigSep Finset.univ fun c : Fin ((K (F := F)).nCore 0) => (P m (rows m) (vals m)).st 0 d c)
    = iprop((xLoc d ↦{fullShare} m (xLoc d)) ∗ (rLoc d ↦{fullShare} rows m d) ∗ (uLoc d ↦{fullShare} vals m d) ∗ (oLoc d ↦{fullShare} m (oLoc d))) :=
  (cores_eq m (rows m) (vals m) d _).symm
theorem dn0_eq (d : Dev nD) : (bigSep Finset.univ fun c : Fin ((K (F := F)).nCore 0) => (P m (rows m) (vals m)).dn 0 d c)
    = iprop((xLoc d ↦{fullShare} m (xLoc d)) ∗ (rLoc d ↦{fullShare} rows m d) ∗ (uLoc d ↦{fullShare} vals m d) ∗ (oLoc d ↦{fullShare} outD m (rows m) (vals m) d)) :=
  (cores_eq m (rows m) (vals m) d _).symm

theorem hmain (κ : GSem nD τ sig → ℕ) (d : Dev nD) :
    iprop((K (F := F)).ctx EH (P m (rows m) (vals m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_zero (F := F) d
  unfold SparseCore.Cfg.tcRes SparseCore.Cfg.tcEnd
  rw [show (unscopedBufs d (fun b => m ((SparseCore.T d).loc b)) : sProp 𝕄) = held (T d) arrs (V0 m d) from unscoped_arrs d (V0 m d)]
  simp only [main, wp_bind, wp_pure]
  iintro ⟨#Hctx, Hst, ⟨Hb, Hheld, Hts, -⟩, HG⟩
  ihave Hst' := (Entails.of_eq hR) $$ Hst
  icases Hst' with ⟨Hdues, Hside⟩
  -- the transposes
  iapply (wp_prepCall m d _)
  isplitr [Hb Hheld Hdues HG]
  rotate_left
  · isplitl [Hb]; · iexact Hb
    isplitl [Hheld Hdues]; · isplitl [Hheld] <;> iassumption
    isplitr; · iapply ((K (F := F)).ctx_levAts κ); iexact Hctx
    iexact HG
  iintro ⟨Hb, Hheld, Hdues⟩
  -- the reshapes
  iapply (wp_hlo_within 𝒱 (SparseCore.T d) none Set.univ (op := op1) (S := arrs) op1_arrs (V := V1 m d)) $$ [Hb Hheld]
  · isplitl [Hb] <;> iassumption
  iintro ⟨Hb, Hheld⟩
  rw [wp_ret]; imodintro
  iapply (wp_hlo_within 𝒱 (SparseCore.T d) none Set.univ (op := op2) (S := arrs) op2_arrs (V := (op1 (F := F)).result (V1 m d))) $$ [Hb Hheld]
  · isplitl [Hb] <;> iassumption
  iintro ⟨Hb, Hheld⟩
  rw [wp_ret]; imodintro
  ihave Hh := (Entails.of_eq (show held (T d) arrs ((op2 (F := F)).result ((op1 (F := F)).result (V1 m d))) = _ from held_V3 (F := F) m d)) $$ Hheld
  icases Hh with ⟨Hx, Hi, Hs, -, -, Hr, Hu, Ho⟩
  -- the scatter
  iapply ((K (F := F)).wp_run (D (F := F)) 𝒱 (EH := EH) (P := P m (rows m) (vals m)) κ d 0) $$ [Hdues Hside Hx Hi Hs Hr Hu Ho Hb Hts]
  isplitr; · iexact Hctx
  isplitl [Hdues Hside]
  · iapply (Entails.of_eq hR.symm)
    isplitl [Hdues] <;> iassumption
  isplitl [Hx Hr Hu Ho]
  · rw [st0_eq]
    isplitl [Hx]; · iexact Hx
    isplitl [Hr]; · iexact Hr
    isplitl [Hu]; · iexact Hu
    iexact Ho
  iintro ⟨Hst, Hdn⟩
  ihave Hdn' := (Entails.of_eq (dn0_eq m d)) $$ Hdn
  icases Hdn' with ⟨Hx, -, -, Ho⟩
  imodintro
  isplitl [Hst]; · iexact Hst
  isplitr [Hb Hts]
  · isplitl [Hx]; · iexact Hx
    isplitl [Hi]; · iexact Hi
    isplitl [Hs]; · iexact Hs
    iexact Ho
  isplitl [Hb] <;> iassumption

/-! ## The launch element -/

def u₀ : UU := (initOf (K (F := F)).hsCells (K (F := F)).hsToks, (initOf (Pipeline.cells cfgs cellOf_inj) (Pipeline.launchToks cfgs cellOf_inj), 1))

theorem bigSep_nothing {I : Type} (s : Finset I) : (bigSep s fun _ => iprop(emp)) = (iprop(emp) : sProp 𝕄) := bigSep_emp_const s

theorem G_all : iprop((bigSep Finset.univ fun c : Dev nD => bigSep Finset.univ fun p : Fin 1 => cellsGhost (calls (F := F)) EP p c)
      ∗ (bigSep Finset.univ fun c : Dev nD => bigSep Finset.univ fun p : Fin 1 => (toksInit (calls (F := F)) EP p c : sProp 𝕄)))
    ⊢ bigSep Finset.univ fun d : Dev nD => G (F := F) d := by
  unfold G
  rw [bigSep_sep']
  rw [bigSep_congr fun _ _ => bigSep_univ_of_subsingleton (0 : Fin 1), bigSep_congr fun _ _ => bigSep_univ_of_subsingleton (0 : Fin 1)]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m (rows m) (vals m)).x q thr) := by
  unfold u₀
  iintro Hu
  ihave H := (ownU_pair (initOf (K (F := F)).hsCells (K (F := F)).hsToks)
    ((initOf (Pipeline.cells cfgs cellOf_inj) (Pipeline.launchToks cfgs cellOf_inj), 1) : UR sig nD τ × Counters)) $$ Hu
  icases H with ⟨HH, HU⟩
  ihave H := (own_pair_emb embR (initOf (Pipeline.cells cfgs cellOf_inj) (Pipeline.launchToks cfgs cellOf_inj)) (1 : Counters)) $$ HU
  icases H with ⟨HP, -⟩
  imod (Pipeline.fund_ghost (calls (F := F)) EP cellOf_inj) $$ HP with Hg
  imodintro
  isplitl [HH]; · iexact HH
  isplitl [Hg]; · iapply (G_all (F := F)); iexact Hg
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

/-! ## The run -/

def fq (d : Dev nD) (s' : Phys nD τ sig (Elt F)) : Prop :=
  s'.mem.mem (oLoc d) = outD m (rows m) (vals m) d ∧ s'.mem.mem (xLoc d) = m (xLoc d) ∧ s'.mem.mem (iLoc d) = m (iLoc d) ∧ s'.mem.mem (sLoc d) = m (sLoc d)

theorem agree (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  iintro ⟨⟨Hx, Hi, Hs, Ho⟩, HSI⟩
  ihave H := (agree (xLoc d) (m (xLoc d)) s') $$ [HSI Hx]
  · isplitl [HSI] <;> iassumption
  icases H with ⟨%hx, HSI⟩
  ihave H := (agree (iLoc d) (m (iLoc d)) s') $$ [HSI Hi]
  · isplitl [HSI] <;> iassumption
  icases H with ⟨%hi, HSI⟩
  ihave H := (agree (sLoc d) (m (sLoc d)) s') $$ [HSI Hs]
  · isplitl [HSI] <;> iassumption
  icases H with ⟨%hs, HSI⟩
  ihave H := (agree (oLoc d) (outD m (rows m) (vals m) d) s') $$ [HSI Ho]
  · isplitl [HSI] <;> iassumption
  icases H with ⟨%ho, HSI⟩
  ipureintro; exact ⟨ho, hx, hi, hs⟩

def QC : PUnit × MemSt nD τ sig (Elt F) → Prop := fun r =>
  (∀ d : Dev nD, r.2.mem (oLoc d) = outD m (rows m) (vals m) d ∧ r.2.mem (xLoc d) = m (xLoc d) ∧ r.2.mem (iLoc d) = m (iLoc d) ∧ r.2.mem (sLoc d) = m (sLoc d))
    ∧ r.2.sem = fun _ => 0

/-- Every run ends with the result named above, the arguments as they were and every semaphore at zero. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (rows m) (vals m)) (A := ∅) facts v₀
    (fun q hq => match q with | 0 => nomatch hq)
    (fun q _ => match q with | 0 => tileObl m (rows m) (vals m) facts)
    (fun q _ => match q with | 0 => SparseCore.Cfg.VecSplit.of_plain (vecSplit m (rows m) (vals m)))
    m ρ main (fun d => G (F := F) d) (FIN m) (u₀ (F := F)) (sep_elim_left.trans (hu₀ m)) (hmain m ρ) (fq m) (hfin m) (QC m) (fun _ h hz => ⟨h, hz⟩)

end Cert.Proof.Launch

end
-- ==== Proof.Value.lean ====
/-
  The kernel's result and the reference's, both as one list of updates per column: the row numbers of the column and
  the values, in order, each update overwriting the cell its row number names (`GS`: the last one stands).
-/
module

public import proofs.«01_k».proof.Proof.Main
public import proofs.«01_k».proof.Proof.Gen.ReferenceIdeal
public import proofs.«01_k».proof.Proof.Gen.Pre_index_nonneg
public import Idealize.ShloMosaic.Lib.ReduceAll
public import Idealize.ShloMosaic.Lib.IdealHost
public import Idealize.ShloMosaic.Lib.ScatterToDense.RefScatter

@[expose] public section

noncomputable section

namespace Cert.Proof.Value

open Cert.KernelIdeal Cert.KernelIdeal.Gen
open Idealize.ShloMosaic Idealize.SL.Sem
open Idealize.ShloMosaic.ScatterToDense (GS GS_zero GS_succ stepAt scatter_fold toInt_eq_iff)
open Idealize.ShloMosaic.Routing (shape2 shape3 symm22 scatter_lands2 scatter_at wrap_of_lt)
open Idealize.ShloMosaic.ValueIdx (ix1 ix2 ix3 eq_ix2)
open Cert.Proof.Tile Cert.Proof.Launch

/-! ## The kernel's side -/

section Kernel

variable {F : FTy → Type}

/-- Within a band, the offset of a row number names a row exactly when the row number is that row of the array. -/
theorem offset_iff (w : BitVec 32) {b h : ℕ} (hb : b < 10) (hh : h < 10000) :
    (w - BitVec.ofNat 32 (10000 * b)).toNat = h ↔ 10000 * b + h = w.toNat := by
  have := w.isLt
  rw [BitVec.toNat_sub, BitVec.toNat_ofNat]
  omega

/-- A tile's cell after the first `n` updates: the updates of the cell's own column among them, in order. -/
theorem tileV_GS (R : S2097152.Idx → BitVec 32) (U : S2097152.Idx → Elt F .f32) (X : S100000x128.Idx → Elt F .f32)
    (b g : ℕ) (hb : b < 10) (h : S10000x8.Idx) : ∀ n : ℕ,
    tileV R U X b g n h
      = GS (fun i => R (flat (16384 * (8 * g + (h 1).val) + i))) (fun i => U (flat (16384 * (8 * g + (h 1).val) + i)))
          (X (cell (10000 * b + (h 0).val) (8 * g + (h 1).val))) (10000 * b + (h 0).val) (min (n - 16384 * (h 1).val) 16384)
  | 0 => by rw [Nat.zero_sub, Nat.zero_min, GS_zero]; rfl
  | n + 1 => by
    have h0 : (h 0).val < 10000 := (h 0).isLt
    have ih := tileV_GS R U X b g hb h n
    show (if (R (flat (131072 * g + n)) - BitVec.ofNat 32 (10000 * b)).toNat = (h 0).val ∧ n / 16384 = (h 1).val then U (flat (131072 * g + n))
      else tileV R U X b g n h) = _
    by_cases hc : n / 16384 = (h 1).val
    · obtain ⟨k, hk, rfl⟩ : ∃ k, k < 16384 ∧ n = 16384 * (h 1).val + k := ⟨n % 16384, Nat.mod_lt _ (by decide), by omega⟩
      have e1 : min (16384 * (h 1).val + k + 1 - 16384 * (h 1).val) 16384 = k + 1 := by omega
      have e2 : min (16384 * (h 1).val + k - 16384 * (h 1).val) 16384 = k := by omega
      have e3 : 131072 * g + (16384 * (h 1).val + k) = 16384 * (8 * g + (h 1).val) + k := by omega
      rw [e1, GS_succ, ih, e2, e3]
      exact if_congr ((and_iff_left hc).trans (offset_iff _ hb h0)) rfl rfl
    · have e1 : min (n + 1 - 16384 * (h 1).val) 16384 = min (n - 16384 * (h 1).val) 16384 := by omega
      rw [if_neg (fun q => hc q.2), ih, e1]

/-- The kernel's result at a cell. -/
theorem outV_GS (R : S2097152.Idx → BitVec 32) (U : S2097152.Idx → Elt F .f32) (X : S100000x128.Idx → Elt F .f32) (r : Fin 100000) (c : Fin 128) :
    outV R U X (ix2 r c)
      = GS (fun i => R (flat (16384 * c.val + i))) (fun i => U (flat (16384 * c.val + i))) (X (ix2 r c)) r.val 16384 := by
  have hr := r.isLt
  have hc := c.isLt
  show tileV R U X (r.val / 10000) (c.val / 8) 131072 (within (ix2 r c)) = _
  rw [tileV_GS R U X _ _ (by omega)]
  have w0 : (within (ix2 r c) 0).val = r.val % 10000 := rfl
  have w1 : (within (ix2 r c) 1).val = c.val % 8 := rfl
  rw [w0, w1, show 10000 * (r.val / 10000) + r.val % 10000 = r.val by omega, show 8 * (c.val / 8) + c.val % 8 = c.val by omega,
    show min (131072 - 16384 * (c.val % 8)) 16384 = 16384 by omega]
  refine congrArg (fun z => GS _ _ (X z) r.val 16384) (funext fun a => Fin.ext ?_)
  match a with
  | ⟨0, _⟩ => exact Nat.mod_eq_of_lt hr
  | ⟨1, _⟩ => exact Nat.mod_eq_of_lt hc

/-- The flat transposed array, column by column. -/
theorem flat_turned {β : Type} (A : S16384x128.Idx → β) (i : Fin 16384) (c : Fin 128) :
    shapeCast S2097152 (turned A) shapeCasts_S128x16384_S2097152 (flat (16384 * c.val + i.val)) = A (ix2 i c) := by
  have hi := i.isLt
  have hc := c.isLt
  have e : turned A (ix2 c i) = A (ix2 i c) := congrArg A (funext fun a => match a with | ⟨0, _⟩ => rfl | ⟨1, _⟩ => rfl)
  rw [← e]
  refine shapeCast_apply _ _ _ _ ?_
  rw [Shape.rowMajor_val_two, Shape.rowMajor_val_one]
  show c.val * 16384 + i.val = (16384 * c.val + i.val) % 2097152
  omega

end Kernel

/-! ## The reference's side -/

/-- A scatter that sets over a `[K, C]` table of updates, update `(i, j)` at row `word j i` of column `j`: the updates of
    the cell's own column, in order. -/
theorem scatter_GS {α : Type} {R C K : ℕ} (d : ScatterDims (shape2 R C) (shape3 K C 2) (shape2 K C)) (hiw : d.insertedWindowDims = [0, 1])
    (hsd : d.scatterDimsToOperandDims = [0, 1]) (hivd : d.indexVectorDim = 2) (hR : R ≤ 2 ^ 31) (hC : C ≤ 2 ^ 31)
    (x : (shape2 R C).Idx → α) (idx : IVec (shape3 K C 2) 32) (upd : (shape2 K C).Idx → α) (word : ℕ → ℕ → BitVec 32) (val : ℕ → ℕ → α)
    (hword : ∀ (i : Fin K) (j : Fin C), idx (ix3 i j (0 : Fin 2)) = word j.val i.val)
    (hcol : ∀ (i : Fin K) (j : Fin C), idx (ix3 i j (1 : Fin 2)) = BitVec.ofNat 32 j.val)
    (hval : ∀ (i : Fin K) (j : Fin C), upd (ix2 i j) = val j.val i.val) (r : Fin R) (c : Fin C) :
    Host.scatter d (fun _ b => b) x idx upd (ix2 r c) = GS (word c.val) (val c.val) (x (ix2 r c)) r.val K := by
  have hN : (shape2 K C).numel = K * C := Shape.numel_rank2 _
  rw [scatter_at, ← scatter_fold (word c.val) (val c.val) (x (ix2 r c)) r.val c.isLt K, ← hN, ← List.map_coe_finRange_eq_range, List.foldl_map]
  refine congrArg (fun f => List.foldl f _ _) (funext fun a => funext fun n => ?_)
  have hn : n.val < K * C := Nat.lt_of_lt_of_eq n.isLt hN
  have hC0 : 0 < C := Nat.lt_of_le_of_lt (Nat.zero_le _) c.isLt
  have hi : n.val / C < K := Nat.div_lt_of_lt_mul (by rwa [Nat.mul_comm] at hn)
  have hj : n.val % C < C := Nat.mod_lt _ hC0
  have hl : d.resultIdx? (ix2 (⟨n.val / C, hi⟩ : Fin K) (⟨n.val % C, hj⟩ : Fin C)) idx = some (ix2 r c)
      ↔ r.val = (word (n.val % C) (n.val / C)).toNat ∧ n.val % C = c.val := by
    rw [scatter_lands2 d hiw hsd hivd, hword, hcol, StableHlo.Predicate.toInt_ofNat_small _ (Nat.lt_of_lt_of_le hj hC),
      toInt_eq_iff _ _ (Nat.lt_of_lt_of_le r.isLt hR)]
    exact and_congr_right' Int.natCast_inj
  unfold stepAt
  rw [symm22 n hi hj, hval]
  by_cases e : n.val % C = c.val
  · obtain rfl : (⟨n.val % C, hj⟩ : Fin C) = c := Fin.ext e
    exact if_congr (hl.trans And.comm) rfl rfl
  · rw [if_neg fun q => e (hl.1 q).2, if_neg fun q => e q.1]

/-- The row numbers as the reference prints them, a negative one counted from the end. -/
abbrev wrapped (I : IVec S16384x128 32) : IVec S16384x128 32 :=
  select (cmpi .slt I (broadcastInDim S16384x128 ![] Cert.ReferenceIdeal.Gen.bcast_S_S16384x128 (constantI S_ 32 0#32)))
    (addi I (broadcastInDim S16384x128 ![] Cert.ReferenceIdeal.Gen.bcast_S_S16384x128 (constantI S_ 32 100000#32))) I

/-- A row number that is not negative is left as it is. -/
theorem wrapped_apply (I : IVec S16384x128 32) (y : S16384x128.Idx) (h : (I y).toNat < 2 ^ 31) : wrapped I y = I y :=
  wrap_of_lt (I y) _ h

/-- The column numbers as the reference prints them. -/
abbrev columns : IVec S16384x128 32 :=
  broadcastInDim S16384x128 ![0, 1] Cert.ReferenceIdeal.Gen.bcast_S1x128_S16384x128_0_1
    (broadcastInDim Cert.ReferenceIdeal.S1x128 ![1] Cert.ReferenceIdeal.Gen.bcast_S128_S1x128_1 (iotaInDim Cert.ReferenceIdeal.S128 32 0))

abbrev wrappedColumns : IVec S16384x128 32 :=
  select (cmpi .slt columns (broadcastInDim S16384x128 ![] Cert.ReferenceIdeal.Gen.bcast_S_S16384x128 (constantI S_ 32 0#32)))
    (addi columns (broadcastInDim S16384x128 ![] Cert.ReferenceIdeal.Gen.bcast_S_S16384x128 (constantI S_ 32 128#32))) columns

theorem wrappedColumns_apply (i : Fin 16384) (j : Fin 128) : wrappedColumns (ix2 i j) = BitVec.ofNat 32 j.val := by
  have hj := j.isLt
  refine wrap_of_lt (BitVec.ofNat 32 j.val) _ ?_
  rw [BitVec.toNat_ofNat]
  omega

/-- The pairs the reference scatters under. -/
abbrev pairs (I : IVec S16384x128 32) : IVec Cert.ReferenceIdeal.S16384x128x2 32 :=
  concatenate Cert.ReferenceIdeal.S16384x128x2 2
    [⟨Cert.ReferenceIdeal.S16384x128x1, broadcastInDim Cert.ReferenceIdeal.S16384x128x1 ![0, 1] Cert.ReferenceIdeal.Gen.bcast_S16384x128_S16384x128x1_0_1 (wrapped I)⟩,
      ⟨Cert.ReferenceIdeal.S16384x128x1, broadcastInDim Cert.ReferenceIdeal.S16384x128x1 ![0, 1] Cert.ReferenceIdeal.Gen.bcast_S16384x128_S16384x128x1_0_1 wrappedColumns⟩]
    Cert.ReferenceIdeal.Gen.concatenates_S16384x128x1_S16384x128x1_S16384x128x2_d2

/-- A table with an axis of one appended, read there. -/
theorem appended_apply (x : S16384x128.Idx → BitVec 32) (i : Fin 16384) (j : Fin 128) :
    broadcastInDim Cert.ReferenceIdeal.S16384x128x1 ![0, 1] Cert.ReferenceIdeal.Gen.bcast_S16384x128_S16384x128x1_0_1 x (ix3 i j (0 : Fin 1)) = x (ix2 i j) :=
  congrArg x (funext fun a => match a with | ⟨0, _⟩ => rfl | ⟨1, _⟩ => rfl)

theorem pairs_row (I : IVec S16384x128 32) (hI : ∀ y, (I y).toNat < 2 ^ 31) (i : Fin 16384) (j : Fin 128) : pairs I (ix3 i j (0 : Fin 2)) = I (ix2 i j) := by
  refine Eq.trans ?_ ((appended_apply _ i j).trans (wrapped_apply I _ (hI _)))
  exact concatenate_pair_apply_left (t := Cert.ReferenceIdeal.S16384x128x2) (s₁ := Cert.ReferenceIdeal.S16384x128x1) (s₂ := Cert.ReferenceIdeal.S16384x128x1)
    2 _ _ _ (ix3 i j (0 : Fin 2)) rfl (ix3 i j (0 : Fin 1)) (fun b => match b with | ⟨0, _⟩ => rfl | ⟨1, _⟩ => rfl | ⟨2, _⟩ => rfl)

theorem pairs_col (I : IVec S16384x128 32) (i : Fin 16384) (j : Fin 128) : pairs I (ix3 i j (1 : Fin 2)) = BitVec.ofNat 32 j.val := by
  refine Eq.trans ?_ ((appended_apply _ i j).trans (wrappedColumns_apply i j))
  exact concatenate_pair_apply_right (t := Cert.ReferenceIdeal.S16384x128x2) (s₁ := Cert.ReferenceIdeal.S16384x128x1) (s₂ := Cert.ReferenceIdeal.S16384x128x1)
    2 _ _ _ (ix3 i j (1 : Fin 2)) rfl rfl (ix3 i j (0 : Fin 1))
    (fun b => match b with | ⟨0, _⟩ => fun _ => rfl | ⟨1, _⟩ => fun _ => rfl | ⟨2, _⟩ => fun h => absurd rfl h) rfl

/-- Where no row number is negative, the kernel's result is the reference's scatter. -/
theorem result_eq (X : FVec Ideal S100000x128 .f32) (I : IVec S16384x128 32) (U : FVec Ideal S16384x128 .f32) (hI : ∀ y, (I y).toNat < 2 ^ 31) :
    outV (F := Ideal) (shapeCast S2097152 (turned I) shapeCasts_S128x16384_S2097152) (shapeCast S2097152 (turned U) shapeCasts_S128x16384_S2097152) X
      = Host.scatter Cert.ReferenceIdeal.scatter_S100000x128_S16384x128x2_S16384x128_n_01_01_2 (fun _ b => b) X (pairs I) U := by
  funext y
  rw [eq_ix2 y]
  refine (outV_GS (F := Ideal) _ _ X (y 0) (y 1)).trans (Eq.symm ?_)
  exact scatter_GS Cert.ReferenceIdeal.scatter_S100000x128_S16384x128x2_S16384x128_n_01_01_2 rfl rfl rfl (by decide) (by decide) X (pairs I) U
    (fun j i => shapeCast S2097152 (turned I) shapeCasts_S128x16384_S2097152 (flat (16384 * j + i)))
    (fun j i => shapeCast S2097152 (turned U) shapeCasts_S128x16384_S2097152 (flat (16384 * j + i)))
    (fun i j => (pairs_row I hI i j).trans (flat_turned I i j).symm) (pairs_col I) (fun i j => (flat_turned U i j).symm) (y 0) (y 1)

/-- The precondition, word by word. -/
theorem nonneg (X : FVec Ideal S100000x128 .f32) (I : IVec S16384x128 32) (U : FVec Ideal S16384x128 .f32)
    (h : Cert.Pre_index_nonneg.fn (F := Ideal) X I U = fun _ => 1#1) (y : S16384x128.Idx) : (I y).toNat < 2 ^ 31 := by
  have e := congrFun h ValueIdx.ix0
  have e' := IntOp.cmpi_sge.1 (Host.reduce_andi_all _ _ _ _ _ e y)
  have hz : (broadcastInDim S16384x128 ![] Cert.ReferenceIdeal.Gen.bcast_S_S16384x128 (constantI S_ 32 0#32) y : BitVec 32).toInt = 0 := rfl
  have e'' : (0 : ℤ) ≤ (I y).toInt := e'
  have := (I y).isLt
  rw [BitVec.toInt_eq_toNat_cond] at e''
  split at e'' <;> omega

end Cert.Proof.Value

end
-- ==== Proof.lean ====
/-
  The claims of the certificate: the program's run (Proof/Main.lean), its result as a list of updates per column and
  the reference's as the same list (Proof/Value.lean), put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_index_nonneg
public import proofs.«01_k».proof.Proof.Value
public import Idealize.ShloMosaic.Adequacy
public import Idealize.ShloMosaic.Init

@[expose] public section

noncomputable section

namespace Cert.Proof

open Idealize.ShloMosaic Idealize.SL.Sem
open Cert.Proof.Launch Cert.Proof.Value

/-! ## The frames -/

/-- The kernel's table of bodies is the idealized program's, entry by entry: the two are one text. -/
theorem bodies_eq {F : FTy → Type} [FloatOps F] : Cert.Kernel.defs₀ (F := F) = Cert.KernelIdeal.defs₀ (F := F) := by
  funext p ℓ a
  match p, ℓ, a with
  | .tc, 0, (_, _) => rfl
  | .tc, 1, _ => rfl
  | .scScalar _, 0, _ => rfl
  | .scScalar _, 1, _ => rfl
  | .scVector _ _, 0, _ => rfl
  | .scVector _ _, 1, _ => rfl

theorem defs_eq {F : FTy → Type} [FloatOps F] : Cert.Kernel.defs (F := F) = Cert.KernelIdeal.defs (F := F) := by
  unfold Cert.Kernel.defs Cert.KernelIdeal.defs
  rw [bodies_eq]
  rfl

/-- The run is proved for any float values, so it is the kernel's own too. -/
theorem frame_kernel : Cert.quiescent_Kernel := by
  intro m ρ _
  rw [defs_eq]
  exact (θ_run (Cert.KernelIdeal.defs (F := Bits)) (Cert.KernelIdeal.threads (F := Bits)) ⟨m, fun _ => 0, ρ⟩).mono
    (fun _ h => ⟨fun c => (h.1 c).2, h.2⟩) (run_main (F := Bits) m ρ)

theorem frame_kernelIdeal : Cert.quiescent_KernelIdeal := fun m ρ _ =>
  (θ_run Cert.KernelIdeal.defs _ _).mono (fun _ h => ⟨fun c => (h.1 c).2, h.2⟩) (run_main (F := Ideal) m ρ)

theorem frame_kernelIdeal_pre : Cert.quiescent_KernelIdeal_pre_index_nonneg := fun m ρ _ => frame_kernelIdeal m ρ trivial

/-- The reference is host code throughout and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_index_nonneg := fun m ρ _ => frame_reference m ρ trivial

/-! ## The value -/

/-- The kernel's result is the reference's, where no row number is negative. -/
theorem value : Cert.algebraic_KernelIdeal_ReferenceIdeal_pre_index_nonneg := by
  intro m ρ m' ρ' hpre hagree
  refine ⟨fun c => outD m (rows m) (vals m) c, (θ_run Cert.KernelIdeal.defs _ _).mono (fun _ h c => h.1 c) (run_main (F := Ideal) m ρ), ?_⟩
  refine (θ_run Cert.ReferenceIdeal.defs _ _).mono (fun _ h c => ⟨(h c).1.trans ?_, (h c).2⟩) (Cert.ReferenceIdeal.Value.run (F := Ideal) m' ρ')
  obtain ⟨e0, e1, e2⟩ := hagree c
  rw [e0, e1, e2]
  exact (result_eq _ _ _ (nonneg _ _ _ (hpre c))).symm

theorem claim : Cert.Claim :=
  ⟨Cert.Kernel.Gen.facts, Cert.KernelIdeal.Gen.facts, Cert.ReferenceIdeal.Gen.facts, Cert.Pre_index_nonneg.Gen.facts,
    frame_kernel, frame_kernelIdeal, frame_kernelIdeal_pre, frame_reference, frame_reference_pre, trivial, value⟩

end Cert.Proof

end
